-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_in_range [hPre_step_in_range : Cert.Pre_step_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_step_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_in_range [hPre_step_in_range : Cert.Pre_step_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_step_in_range [hKernelIdeal : Cert.KernelIdeal.Facts] [hPre_step_in_range : Cert.Pre_step_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_step_in_range [hReferenceIdeal : Cert.ReferenceIdeal.Facts] [hPre_step_in_range : Cert.Pre_step_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xCE6E6B28#32 ⊥

def algebraic_KernelIdeal_ReferenceIdeal_pre_step_in_range [hKernelIdeal : Cert.KernelIdeal.Facts] [hReferenceIdeal : Cert.ReferenceIdeal.Facts] [hPre_step_in_range : Cert.Pre_step_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_step_in_range : Cert.Pre_step_in_range.Facts),
    quiescent_Kernel (hKernel := hKernel)
    ∧ quiescent_KernelIdeal (hKernelIdeal := hKernelIdeal)
    ∧ quiescent_KernelIdeal_pre_step_in_range (hKernelIdeal := hKernelIdeal) (hPre_step_in_range := hPre_step_in_range)
    ∧ quiescent_ReferenceIdeal (hReferenceIdeal := hReferenceIdeal)
    ∧ quiescent_ReferenceIdeal_pre_step_in_range (hReferenceIdeal := hReferenceIdeal) (hPre_step_in_range := hPre_step_in_range)
    ∧ preserves_Kernel_KernelIdeal
    ∧ algebraic_KernelIdeal_ReferenceIdeal_pre_step_in_range (hKernelIdeal := hKernelIdeal) (hReferenceIdeal := hReferenceIdeal) (hPre_step_in_range := hPre_step_in_range)
-- ==== Pre_step_in_range.lean ====
abbrev S32x32x256 : Shape := ⟨3, ![32, 32, 256]⟩
abbrev S16x32x32x256 : Shape := ⟨4, ![16, 32, 32, 256]⟩
abbrev S256x128 : Shape := ⟨2, ![256, 128]⟩
abbrev S128x256 : Shape := ⟨2, ![128, 256]⟩
abbrev S_ : Shape := ⟨0, ![]⟩

class Facts : Prop where

variable [Facts]

def fn {F : FTy → Type} [FloatOps F] (main_arg0 : FVec F S32x32x256 .f32) (main_arg1 : FVec F S16x32x32x256 .f32) (main_arg2 : FVec F S256x128 .f32) (main_arg3 : FVec F S256x128 .f32) (main_arg4 : FVec F S256x128 .f32) (main_arg5 : FVec F S128x256 .f32) (main_arg6 : IVec S_ 32) : IVec S_ 1 :=
  let main_c : IVec S_ 32 := constantI S_ 32 4292870144#32
  let main_v0 : IVec S_ 1 := cmpi .sge main_arg6 main_c
  let main_c_0 : IVec S_ 32 := constantI S_ 32 2097152#32
  let main_v1 : IVec S_ 1 := cmpi .slt main_arg6 main_c_0
  let main_v2 : IVec S_ 1 := andi main_v0 main_v1
  main_v2
-- ==== Kernel.lean ====
abbrev S32x32x256 : Shape := ⟨3, ![32, 32, 256]⟩
abbrev S16x32x32x256 : Shape := ⟨4, ![16, 32, 32, 256]⟩
abbrev S256x128 : Shape := ⟨2, ![256, 128]⟩
abbrev S128x256 : Shape := ⟨2, ![128, 256]⟩
abbrev S_ : Shape := ⟨0, ![]⟩
abbrev S16384x256 : Shape := ⟨2, ![16384, 256]⟩
abbrev S1024x256 : Shape := ⟨2, ![1024, 256]⟩
abbrev S16384x128 : Shape := ⟨2, ![16384, 128]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1024x1 : Shape := ⟨2, ![1024, 1]⟩
abbrev S128x1 : Shape := ⟨2, ![128, 1]⟩
abbrev S128 : Shape := ⟨1, ![128]⟩
abbrev S128x16384 : Shape := ⟨2, ![128, 16384]⟩
abbrev S8x16384 : Shape := ⟨2, ![8, 16384]⟩
abbrev S1x16384 : Shape := ⟨2, ![1, 16384]⟩
abbrev S128x128 : Shape := ⟨2, ![128, 128]⟩

abbrev nBuf : Space → Nat
  | .hbm => 29
  | .vmem => 34
  | .smem => 2
  | _ => 0

abbrev bufTy : (tb : Table) → Fin (tcTables nBuf tb) → BufTy
  | .hbm, ⟨0, _⟩ => ⟨S32x32x256, .f32⟩
  | .hbm, ⟨1, _⟩ => ⟨S16x32x32x256, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S128x256, .f32⟩
  | .hbm, ⟨6, _⟩ => ⟨S_, .i32⟩
  | .hbm, ⟨7, _⟩ => ⟨S16384x256, .f32⟩
  | .hbm, ⟨8, _⟩ => ⟨S1024x256, .f32⟩
  | .hbm, ⟨9, _⟩ => ⟨S16384x256, .f32⟩
  | .hbm, ⟨10, _⟩ => ⟨S16384x128, .f32⟩
  | .hbm, ⟨11, _⟩ => ⟨S16384x128, .f32⟩
  | .hbm, ⟨12, _⟩ => ⟨S1, .i32⟩
  | .hbm, ⟨13, _⟩ => ⟨S1024x256, .f32⟩
  | .hbm, ⟨14, _⟩ => ⟨S1024x1, .i32⟩
  | .hbm, ⟨15, _⟩ => ⟨S1024x1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1024x256, .f32⟩
  | .hbm, ⟨23, _⟩ => ⟨S1024x1, .i32⟩
  | .hbm, ⟨24, _⟩ => ⟨S1024x256, .f32⟩
  | .hbm, ⟨25, _⟩ => ⟨S1024x1, .i32⟩
  | .hbm, ⟨26, _⟩ => ⟨S32x32x256, .f32⟩
  | .hbm, ⟨27, _⟩ => ⟨S_, .i32⟩
  | .hbm, ⟨28, _⟩ => ⟨S_, .i32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S256x128, .f32⟩
  | .local _ .vmem, ⟨4, _⟩ => ⟨S4096x256, .f32⟩
  | .local _ .vmem, ⟨5, _⟩ => ⟨S4096x256, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S128x256, .f32⟩
  | .local _ .vmem, ⟨11, _⟩ => ⟨S128x256, .f32⟩
  | .local _ .vmem, ⟨12, _⟩ => ⟨S16384x256, .f32⟩
  | .local _ .vmem, ⟨13, _⟩ => ⟨S16384x128, .f32⟩
  | .local _ .vmem, ⟨14, _⟩ => ⟨S16384x128, .f32⟩
  | .local _ .vmem, ⟨15, _⟩ => ⟨S256x128, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x1, .i32⟩
  | .local _ .vmem, ⟨20, _⟩ => ⟨S128x1, .i32⟩
  | .local _ .vmem, ⟨21, _⟩ => ⟨S128x1, .i32⟩
  | .local _ .vmem, ⟨22, _⟩ => ⟨S128x1, .i32⟩
  | .local _ .vmem, ⟨23, _⟩ => ⟨S128x256, .f32⟩
  | .local _ .vmem, ⟨24, _⟩ => ⟨S128x256, .f32⟩
  | .local _ .vmem, ⟨25, _⟩ => ⟨S16384x256, .f32⟩
  | .local _ .vmem, ⟨26, _⟩ => ⟨S16384x128, .f32⟩
  | .local _ .vmem, ⟨27, _⟩ => ⟨S16384x128, .f32⟩
  | .local _ .vmem, ⟨28, _⟩ => ⟨S256x128, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x1, .i32⟩
  | .local _ .vmem, ⟨33, _⟩ => ⟨S128x1, .i32⟩
  | .local _ .smem, ⟨0, _⟩ => ⟨S1, .i32⟩
  | .local _ .smem, ⟨1, _⟩ => ⟨S1, .i32⟩
  | _, _ => ⟨S32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_c : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8_0 : Ref sig .tc := ⟨.hbm, 22, rfl⟩
abbrev main_v8_1 : Ref sig .tc := ⟨.hbm, 23, rfl⟩
abbrev main_case0b1_v11_0 : Ref sig .tc := ⟨.hbm, 24, rfl⟩
abbrev main_case0b1_v11_1 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16384x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16384x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16384x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x1 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S32x32x256 : Shape := ⟨3, ![32, 32, 256]⟩
abbrev S16x32x32x256 : Shape := ⟨4, ![16, 32, 32, 256]⟩
abbrev S256x128 : Shape := ⟨2, ![256, 128]⟩
abbrev S128x256 : Shape := ⟨2, ![128, 256]⟩
abbrev S_ : Shape := ⟨0, ![]⟩
abbrev S1024x256 : Shape := ⟨2, ![1024, 256]⟩
abbrev S1024x128 : Shape := ⟨2, ![1024, 128]⟩
abbrev S16384x256 : Shape := ⟨2, ![16384, 256]⟩
abbrev S1024 : Shape := ⟨1, ![1024]⟩
abbrev S1024x1 : Shape := ⟨2, ![1024, 1]⟩
abbrev S16384 : Shape := ⟨1, ![16384]⟩
abbrev S16384x1 : Shape := ⟨2, ![16384, 1]⟩
abbrev S256x16384 : Shape := ⟨2, ![256, 16384]⟩
abbrev S1024x16384 : Shape := ⟨2, ![1024, 16384]⟩
abbrev S1024x16 : Shape := ⟨2, ![1024, 16]⟩
abbrev S16384x128 : Shape := ⟨2, ![16384, 128]⟩
abbrev S1024x16x1 : Shape := ⟨3, ![1024, 16, 1]⟩
abbrev S1 : Shape := ⟨1, ![1]⟩
abbrev S1x1x1 : Shape := ⟨3, ![1, 1, 1]⟩
abbrev S1024x16x128 : Shape := ⟨3, ![1024, 16, 128]⟩

abbrev nBuf : Space → Nat
  | .hbm => 146
  | .vmem => 0
  | .smem => 0
  | _ => 0

abbrev hbmTy0_0 (i : Nat) : BufTy := match i % 128 with
  | 0 => ⟨S32x32x256, .f32⟩
  | 1 => ⟨S16x32x32x256, .f32⟩
  | 2 => ⟨S256x128, .f32⟩
  | 3 => ⟨S256x128, .f32⟩
  | 4 => ⟨S256x128, .f32⟩
  | 5 => ⟨S128x256, .f32⟩
  | 6 => ⟨S_, .i32⟩
  | 7 => ⟨S1024x256, .f32⟩
  | 8 => ⟨S1024x128, .f32⟩
  | 9 => ⟨S1024x256, .f32⟩
  | 10 => ⟨S16384x256, .f32⟩
  | 11 => ⟨S1024x256, .f32⟩
  | 12 => ⟨S_, .f32⟩
  | 13 => ⟨S1024, .f32⟩
  | 14 => ⟨S1024x1, .f32⟩
  | 15 => ⟨S1024x1, .f32⟩
  | 16 => ⟨S_, .f32⟩
  | 17 => ⟨S1024x1, .f32⟩
  | 18 => ⟨S1024x1, .f32⟩
  | 19 => ⟨S1024x256, .f32⟩
  | 20 => ⟨S1024x256, .f32⟩
  | 21 => ⟨S16384x256, .f32⟩
  | 22 => ⟨S_, .f32⟩
  | 23 => ⟨S16384, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x256, .f32⟩
  | 30 => ⟨S16384x256, .f32⟩
  | 31 => ⟨S256x16384, .f32⟩
  | 32 => ⟨S1024x16384, .f32⟩
  | 33 => ⟨S1024x16, .f32⟩
  | 34 => ⟨S1024x16, .i32⟩
  | 35 => ⟨S_, .f32⟩
  | 36 => ⟨S1024x16, .f32⟩
  | 37 => ⟨S1024x16, .i1⟩
  | 38 => ⟨S_, .i32⟩
  | 39 => ⟨S_, .i32⟩
  | 40 => ⟨S1024x16, .i32⟩
  | 41 => ⟨S1024x16, .i32⟩
  | 42 => ⟨S1024x16, .i32⟩
  | 43 => ⟨S_, .i32⟩
  | 44 => ⟨S1024x16, .i32⟩
  | 45 => ⟨S1024x16, .i1⟩
  | 46 => ⟨S1024x16, .i32⟩
  | 47 => ⟨S1024x16, .i32⟩
  | 48 => ⟨S_, .i32⟩
  | 49 => ⟨S1024x16, .i32⟩
  | 50 => ⟨S1024x16, .i1⟩
  | 51 => ⟨S1024x16, .i1⟩
  | 52 => ⟨S_, .i32⟩
  | 53 => ⟨S1024x16, .i32⟩
  | 54 => ⟨S1024x16, .i32⟩
  | 55 => ⟨S1024x16, .i32⟩
  | 56 => ⟨S1024x16, .i32⟩
  | 57 => ⟨S1024x16, .i32⟩
  | 58 => ⟨S_, .i32⟩
  | 59 => ⟨S1024x16, .i32⟩
  | 60 => ⟨S1024x16, .i1⟩
  | 61 => ⟨S1024x16, .i1⟩
  | 62 => ⟨S1024x16, .i32⟩
  | 63 => ⟨S1024x16, .i1⟩
  | 64 => ⟨S1024x16, .i1⟩
  | 65 => ⟨S16384x128, .f32⟩
  | 66 => ⟨S16384x128, .f32⟩
  | 67 => ⟨S_, .i32⟩
  | 68 => ⟨S1024x16, .i32⟩
  | 69 => ⟨S1024x16, .i1⟩
  | 70 => ⟨S_, .i32⟩
  | 71 => ⟨S1024x16, .i32⟩
  | 72 => ⟨S1024x16, .i32⟩
  | 73 => ⟨S1024x16, .i32⟩
  | 74 => ⟨S1024x16x1, .i32⟩
  | 75 => ⟨S1, .i32⟩
  | 76 => ⟨S_, .i32⟩
  | 77 => ⟨S1024x16x1, .i32⟩
  | 78 => ⟨S1024x16x1, .i1⟩
  | 79 => ⟨S1x1x1, .i32⟩
  | 80 => ⟨S1024x16x1, .i32⟩
  | 81 => ⟨S1024x16x1, .i1⟩
  | 82 => ⟨S1024x16x1, .i1⟩
  | 83 => ⟨S_, .i1⟩
  | 84 => ⟨S1024x16, .i1⟩
  | 85 => ⟨S1024x16x128, .f32⟩
  | 86 => ⟨S1024x16x128, .i1⟩
  | 87 => ⟨S_, .f32⟩
  | 88 => ⟨S1024x16x128, .f32⟩
  | 89 => ⟨S1024x16x128, .f32⟩
  | 90 => ⟨S_, .i32⟩
  | 91 => ⟨S1024x16, .i32⟩
  | 92 => ⟨S1024x16, .i1⟩
  | 93 => ⟨S_, .i32⟩
  | 94 => ⟨S1024x16, .i32⟩
  | 95 => ⟨S1024x16, .i32⟩
  | 96 => ⟨S1024x16, .i32⟩
  | 97 => ⟨S1024x16x1, .i32⟩
  | 98 => ⟨S1, .i32⟩
  | 99 => ⟨S_, .i32⟩
  | 100 => ⟨S1024x16x1, .i32⟩
  | 101 => ⟨S1024x16x1, .i1⟩
  | 102 => ⟨S1x1x1, .i32⟩
  | 103 => ⟨S1024x16x1, .i32⟩
  | 104 => ⟨S1024x16x1, .i1⟩
  | 105 => ⟨S1024x16x1, .i1⟩
  | 106 => ⟨S_, .i1⟩
  | 107 => ⟨S1024x16, .i1⟩
  | 108 => ⟨S1024x16x128, .f32⟩
  | 109 => ⟨S1024x16x128, .i1⟩
  | 110 => ⟨S_, .f32⟩
  | 111 => ⟨S1024x16x128, .f32⟩
  | 112 => ⟨S1024x16x128, .f32⟩
  | 113 => ⟨S1024x16, .f32⟩
  | 114 => ⟨S_, .f32⟩
  | 115 => ⟨S_, .f32⟩
  | 116 => ⟨S1024x16, .f32⟩
  | 117 => ⟨S1024x16, .f32⟩
  | 118 => ⟨S_, .f32⟩
  | 119 => ⟨S_, .f32⟩
  | 120 => ⟨S1024x16, .f32⟩
  | 121 => ⟨S1024x16, .f32⟩
  | 122 => ⟨S_, .f32⟩
  | 123 => ⟨S1024, .f32⟩
  | 124 => ⟨S_, .f32⟩
  | 125 => ⟨S1024, .f32⟩
  | 126 => ⟨S1024, .f32⟩
  | 127 => ⟨S1024x1, .f32⟩
  | _ => ⟨S32x32x256, .f32⟩

abbrev hbmTy0_1 (i : Nat) : BufTy := match i % 128 with
  | 0 => ⟨S1024x16, .f32⟩
  | 1 => ⟨S1024x16, .f32⟩
  | 2 => ⟨S1024x16, .f32⟩
  | 3 => ⟨S_, .f32⟩
  | 4 => ⟨S1024, .f32⟩
  | 5 => ⟨S1024x1, .f32⟩
  | 6 => ⟨S1024x16, .f32⟩
  | 7 => ⟨S1024x16, .f32⟩
  | 8 => ⟨S_, .f32⟩
  | 9 => ⟨S_, .f32⟩
  | 10 => ⟨S1024x16, .f32⟩
  | 11 => ⟨S1024x16, .f32⟩
  | 12 => ⟨S1024x128, .f32⟩
  | 13 => ⟨S1024x256, .f32⟩
  | 14 => ⟨S32x32x256, .f32⟩
  | 15 => ⟨S1024x16, .i32⟩
  | 16 => ⟨S_, .i32⟩
  | 17 => ⟨S_, .i32⟩
  | _ => ⟨S32x32x256, .f32⟩

abbrev hbmTy (i : Nat) : BufTy := match i / 128 with
  | 0 => hbmTy0_0 i
  | 1 => hbmTy0_1 i
  | _ => ⟨S32x32x256, .f32⟩

abbrev bufTy : (tb : Table) → Fin (tcTables nBuf tb) → BufTy
  | .hbm, ⟨i, _⟩ => hbmTy i
  | _, _ => ⟨S32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_values : Ref sig .tc := ⟨.hbm, 33, rfl⟩
abbrev main_indices : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v35 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v36 : Ref sig .tc := ⟨.hbm, 112, rfl⟩
abbrev main_v37 : Ref sig .tc := ⟨.hbm, 113, rfl⟩
abbrev main_cst_5 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_cst_6 : Ref sig .tc := ⟨.hbm, 118, rfl⟩
abbrev main_call3_v0 : Ref sig .tc := ⟨.hbm, 119, rfl⟩
abbrev main_call3_v1 : Ref sig .tc := ⟨.hbm, 120, rfl⟩
abbrev main_v41 : Ref sig .tc := ⟨.hbm, 121, rfl⟩
abbrev main_cst_7 : Ref sig .tc := ⟨.hbm, 122, rfl⟩
abbrev main_v42 : Ref sig .tc := ⟨.hbm, 123, rfl⟩
abbrev main_cst_8 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_9 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_10 : Ref sig .tc := ⟨.hbm, 136, rfl⟩
abbrev main_call4_v0 : Ref sig .tc := ⟨.hbm, 137, rfl⟩
abbrev main_call4_v1 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_c_11 : Ref sig .tc := ⟨.hbm, 144, rfl⟩
abbrev main_v58 : Ref sig .tc := ⟨.hbm, 145, rfl⟩

abbrev nD : Nat := 1
abbrev τ : Topo := Topo.v7x

variable {F : FTy → Type} [FloatOps F]
-- ==== Proof.Kernel.Base.lean ====
/- The user component of the ghost state of the run: one copy of the pipeline library's rounds per kernel launch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.RegionsCase
public import Idealize.ShloMosaic.Lib.HostLoop.Plain
public import Idealize.ShloMosaic.Lib.HostLoop.Lifted
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.Kernel.Gen

open Idealize.ShloMosaic Idealize.ShloMosaic.Rounds Idealize.SL.RA

/-- One copy of the pipeline library's ghost state per launch of the program (three), beside the counters' part. -/
abbrev UU : Type := IProdConst (Fin 3) (UR sig nD τ) × Counters

end Cert.Kernel.Gen

end
-- ==== Proof.KernelIdeal.Base.lean ====
/- The user component of the ghost state of the run: one copy of the pipeline library's rounds per kernel launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionsCase
public import Idealize.ShloMosaic.Lib.HostLoop.Plain
public import Idealize.ShloMosaic.Lib.HostLoop.Lifted
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Gen

open Idealize.ShloMosaic Idealize.ShloMosaic.Rounds Idealize.SL.RA

/-- One copy of the pipeline library's ghost state per launch of the program (three), beside the counters' part. -/
abbrev UU : Type := IProdConst (Fin 3) (UR sig nD τ) × Counters

end Cert.KernelIdeal.Gen

end
-- ==== Proof.KernelIdeal.Region0.lean ====
/- The key kernel's launch (custom_call 0): what its body leaves in each output block, and that the body meets
   the pipeline's demand at every grid point. -/
module

public import proofs.«01_k».proof.Proof.KernelIdeal.Base

@[expose] public section

-- membership in a rectangle of production extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Regions
-- the TensorCore's buffer contents when a region is entered: the parameter the region's half is stated at
variable (V : (c : Dev nD) → (b : Ref sig .tc) → Buf (Elt F) ((c : Thread nD τ).loc b))

/-! # REGION 0 of @main: custom_call 0, `cc0__keys_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UU) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UU) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UU) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x256 := Rect.unit (s := S4096x256) ![0, 0] S4096x256.size inb_S4096x256_S4096x256_0_0
abbrev r0_1 : Rect S256x128 := Rect.unit (s := S256x128) ![0, 0] S256x128.size inb_S256x128_S256x128_0_0
abbrev r0_2 : Rect S4096x128 := Rect.unit (s := S4096x128) ![0, 0] S4096x128.size inb_S4096x128_S4096x128_0_0

/-! ## What the body leaves in each output window's buffer -/

/-- Window 3's staging buffer after the body, from the input windows' blocks: its 1 store as pieces, LAST
    FIRST (Lib/Pipeline/FrameBody.lean `View.canon`; the payloads are the skeleton's). -/
def out0_3 (x0 : Vec F S4096x256 .f32) (x1 : Vec F S256x128 .f32) (x2 : Vec F S256x128 .f32) : Vec F S4096x256 .f32 :=
  View.canon [⟨r0_0, k0_pay2 (View.ld x0 r0_0)⟩]

/-- Its stores tile the buffer (checked by evaluation), so they cover it. -/
theorem cover0_3 (p0 : Vec F S4096x256 .f32) (y : S4096x256.Idx) :
    ∃ pc ∈ ([⟨r0_0, p0⟩] : List (View.Piece (Elt F) S4096x256 .f32)), y ∈ pc.1.set :=
  View.cover_of_tiled [⟨r0_0, p0⟩] S4096x256.size (by rfl) y

/-- Window 4's staging buffer after the body, from the input windows' blocks: its 1 store as pieces, LAST
    FIRST (Lib/Pipeline/FrameBody.lean `View.canon`; the payloads are the skeleton's). -/
def out0_4 (x0 : Vec F S4096x256 .f32) (x1 : Vec F S256x128 .f32) (x2 : Vec F S256x128 .f32) : Vec F S4096x128 .f32 :=
  View.canon [⟨r0_2, k0_pay3 (View.ld x0 r0_0) (View.ld x1 r0_1)⟩]

/-- Its stores tile the buffer (checked by evaluation), so they cover it. -/
theorem cover0_4 (p0 : Vec F S4096x128 .f32) (y : S4096x128.Idx) :
    ∃ pc ∈ ([⟨r0_2, p0⟩] : List (View.Piece (Elt F) S4096x128 .f32)), y ∈ pc.1.set :=
  View.cover_of_tiled [⟨r0_2, p0⟩] S4096x128.size (by rfl) y

/-- Window 5's staging buffer after the body, from the input windows' blocks: its 1 store as pieces, LAST
    FIRST (Lib/Pipeline/FrameBody.lean `View.canon`; the payloads are the skeleton's). -/
def out0_5 (x0 : Vec F S4096x256 .f32) (x1 : Vec F S256x128 .f32) (x2 : Vec F S256x128 .f32) : Vec F S4096x128 .f32 :=
  View.canon [⟨r0_2, k0_pay4 (View.ld x0 r0_0) (View.ld x2 r0_1)⟩]

/-- Its stores tile the buffer (checked by evaluation), so they cover it. -/
theorem cover0_5 (p0 : Vec F S4096x128 .f32) (y : S4096x128.Idx) :
    ∃ pc ∈ ([⟨r0_2, p0⟩] : List (View.Piece (Elt F) S4096x128 .f32)), y ∈ pc.1.set :=
  View.cover_of_tiled [⟨r0_2, p0⟩] S4096x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S4096x256 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4096x256 .f32) (harg4 : arg4.IsWhole) (arg5 : Memref sig .tc .vmem S4096x128 .f32) (harg5 : arg5.IsWhole) (arg6 : Memref sig .tc .vmem S4096x128 .f32) (harg6 : arg6.IsWhole)
    (x0 : Vec F S4096x256 .f32) (x1 : Vec F S256x128 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__keys_kernel i arg1 harg1 arg2 harg2 arg3 harg3 arg4 harg4 arg5 harg5 arg6 harg6) K := by
  simp only [cc0__keys_kernel_eq_skeleton]; unfold cc0__keys_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UU) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Region1.lean ====
/- The fast attention kernel's launch (custom_call 1): what its body leaves in each output block, and that the body
   meets the pipeline's demand at every grid point. -/
module

public import proofs.«01_k».proof.Proof.KernelIdeal.Base

@[expose] public section

-- membership in a rectangle of production extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Regions
-- the TensorCore's buffer contents when a region is entered: the parameter the region's half is stated at
variable (V : (c : Dev nD) → (b : Ref sig .tc) → Buf (Elt F) ((c : Thread nD τ).loc b))

/-! # REGION 1 of @main: custom_call 1, `cc1__attn_fast_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UU) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UU) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UU) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UU) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UU) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UU) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UU) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S128x256 .f32 := (Memref.whole cc1_stg7_0 : Memref sig .tc .vmem S128x256 .f32).view
/-- One staging buffer of output window 8, through which its contents are stated (`View.read_writes_of_cover`: the
    choice does not matter). -/
abbrev VO1_8 : View sig .tc .vmem S128x1 .i32 := (Memref.whole cc1_stg8_0 : Memref sig .tc .vmem S128x1 .i32).view
/-- One staging buffer of output window 9, through which its contents are stated (`View.read_writes_of_cover`: the
    choice does not matter). -/
abbrev VO1_9 : View sig .tc .vmem S128x1 .i32 := (Memref.whole cc1_stg9_0 : Memref sig .tc .vmem S128x1 .i32).view
/-- Each window's current staging memref at point `t`, spelled as the pipeline passes it (`bodyAt1`), and its wholeness. -/
abbrev ms1_0 (t : Fin cfg1.N) : Memref sig .tc .smem S1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16384x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x1 .i32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x1 .i32 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) :
    Σ' (L7 : List (View.Piece (Elt F) S128x256 .f32)), Σ' (L8 : List (View.Piece (Elt F) S128x1 .i32)), { L9 : List (View.Piece (Elt F) S128x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__attn_fast_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__attn_fast_kernel_eq_skeleton]; unfold cc1__attn_fast_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-- The run's pieces for output 7 tile its block (1 store of `S128x256`, checked by the kernel's evaluation: Lib/Ring.lean `Piece.tiledL`, linear in the pieces, through a loop's `@[irreducible]` trip theorem too), so they cover it. -/
theorem cover1_A_7 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) (y : S128x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4 x5 x6).1 S128x256.size (by sl_kernel_rfl) y

/-- What the run leaves in output 7's staging buffer: its pieces read back over junk. -/
def out1_A_7 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) : Vec F S128x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 x0 x1 x2 x3 x4 x5 x6).1)

/-- The run's pieces for output 8 tile its block (1 store of `S128x1`, checked by the kernel's evaluation: Lib/Ring.lean `Piece.tiledL`, linear in the pieces, through a loop's `@[irreducible]` trip theorem too), so they cover it. -/
theorem cover1_A_8 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) (y : S128x1.Idx) :
    ∃ pc ∈ (kernelRun1_A c i arg1 harg1 arg2 harg2 arg3 harg3 arg4 harg4 arg5 harg5 arg6 harg6 arg7 harg7 arg8 harg8 arg9 harg9 arg10 harg10 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4 x5 x6).2.1 S128x1.size (by sl_kernel_rfl) y

/-- What the run leaves in output 8's staging buffer: its pieces read back over junk. -/
def out1_A_8 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) : Vec F S128x1 .i32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 x0 x1 x2 x3 x4 x5 x6).2.1)

/-- The run's pieces for output 9 tile its block (1 store of `S128x1`, checked by the kernel's evaluation: Lib/Ring.lean `Piece.tiledL`, linear in the pieces, through a loop's `@[irreducible]` trip theorem too), so they cover it. -/
theorem cover1_A_9 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) (y : S128x1.Idx) :
    ∃ pc ∈ (kernelRun1_A c i arg1 harg1 arg2 harg2 arg3 harg3 arg4 harg4 arg5 harg5 arg6 harg6 arg7 harg7 arg8 harg8 arg9 harg9 arg10 harg10 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4 x5 x6).2.2.1 S128x1.size (by sl_kernel_rfl) y

/-- What the run leaves in output 9's staging buffer: its pieces read back over junk. -/
def out1_A_9 (c : Dev nD) (i : grid1.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole) (arg10 : Memref sig .tc .vmem S128x1 .i32) (harg10 : arg10.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) : Vec F S128x1 .i32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 x0 x1 x2 x3 x4 x5 x6).2.2.1)

/-! ## What the outputs hold after each point -/

/-- What the outputs' staging buffers hold after the body at point `t` (as a tuple, in window order): the run's contents at
    the point's memrefs and input blocks. -/
def outsAt1 (c : Dev nD) (t : Fin cfg1.N) : Vec F S128x256 .f32 × Vec F S128x1 .i32 × Vec F S128x1 .i32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UU) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t).1
    | ⟨8, _⟩ => (outsAt1 V c t).2.1
    | ⟨9, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t).1 := by dsimp only [dat1]
theorem after1_8 (c : Dev nD) (t : Fin cfg1.N) : (dat1 V c).after 8 t = (outsAt1 V c t).2.1 := by dsimp only [dat1]
theorem after1_9 (c : Dev nD) (t : Fin cfg1.N) : (dat1 V c).after 9 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold outsAt1
  unfold out1_A_7 out1_A_8 out1_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _)
  unfold owns; iexists _; isplitr
  swap; · iexact H9
  ipureintro; exact View.read_writes_of_cover _ _ _ _ _ (cover1_A_9 c _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Region2.lean ====
/- The tie-breaking attention kernel's launch (custom_call 2), which only the taken host branch runs: what its body
   leaves in each output block, and that the body meets the pipeline's demand at every grid point. -/
module

public import proofs.«01_k».proof.Proof.KernelIdeal.Base

@[expose] public section

-- membership in a rectangle of production extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Regions
-- the TensorCore's buffer contents when a region is entered: the parameter the region's half is stated at
variable (V : (c : Dev nD) → (b : Ref sig .tc) → Buf (Elt F) ((c : Thread nD τ).loc b))

/-! # REGION 2 of @main: custom_call 2, `cc2__attn_exact_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UU) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UU) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UU) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UU) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UU) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UU) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UU) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 7, through which its contents are stated (`View.read_writes_of_cover`: the
    choice does not matter). -/
abbrev VO2_7 : View sig .tc .vmem S128x256 .f32 := (Memref.whole cc2_stg7_0 : Memref sig .tc .vmem S128x256 .f32).view
/-- One staging buffer of output window 8, through which its contents are stated (`View.read_writes_of_cover`: the
    choice does not matter). -/
abbrev VO2_8 : View sig .tc .vmem S128x1 .i32 := (Memref.whole cc2_stg8_0 : Memref sig .tc .vmem S128x1 .i32).view
/-- Each window's current staging memref at point `t`, spelled as the pipeline passes it (`bodyAt2`), and its wholeness. -/
abbrev ms2_0 (t : Fin cfg2.N) : Memref sig .tc .smem S1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16384x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16384x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16384x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S128x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S128x1 .i32 := win2_8.stage (cfg2.slots t 8)
abbrev hs2_8 (t : Fin cfg2.N) : (ms2_8 t).IsWhole := hstage2_8 ((cfg2.slots t 8).cast nbuf2_8)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) :
    Σ' (L7 : List (View.Piece (Elt F) S128x256 .f32)), { L8 : List (View.Piece (Elt F) S128x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__attn_exact_kernel i arg1 harg1 arg2 harg2 arg3 harg3 arg4 harg4 arg5 harg5 arg6 harg6 arg7 harg7 arg8 harg8 arg9 harg9) K } := by
  refine ⟨?_, ?_, fun E K => ?run⟩
  case run =>
    simp only [cc2__attn_exact_kernel_eq_skeleton]; unfold cc2__attn_exact_kernel_skel
    simp only [k2_part1_eq_skeleton, k2_part2_eq_skeleton, k2_part3_eq_skeleton, k2_part4_eq_skeleton, k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

/-- The run's pieces for output 7 tile its block (1 store of `S128x256`, checked by the kernel's evaluation: Lib/Ring.lean `Piece.tiledL`, linear in the pieces, through a loop's `@[irreducible]` trip theorem too), so they cover it. -/
theorem cover2_A_7 (c : Dev nD) (i : grid2.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) (y : S128x256.Idx) :
    ∃ pc ∈ (kernelRun2_A c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 x0 x1 x2 x3 x4 x5 x6).1 S128x256.size (by sl_kernel_rfl) y

/-- What the run leaves in output 7's staging buffer: its pieces read back over junk. -/
def out2_A_7 (c : Dev nD) (i : grid2.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) : Vec F S128x256 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 x0 x1 x2 x3 x4 x5 x6).1)

/-- The run's pieces for output 8 tile its block (1 store of `S128x1`, checked by the kernel's evaluation: Lib/Ring.lean `Piece.tiledL`, linear in the pieces, through a loop's `@[irreducible]` trip theorem too), so they cover it. -/
theorem cover2_A_8 (c : Dev nD) (i : grid2.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) (y : S128x1.Idx) :
    ∃ pc ∈ (kernelRun2_A c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 x0 x1 x2 x3 x4 x5 x6).2.1 S128x1.size (by sl_kernel_rfl) y

/-- What the run leaves in output 8's staging buffer: its pieces read back over junk. -/
def out2_A_8 (c : Dev nD) (i : grid2.Coords) (arg1 : Memref sig .tc .smem S1 .i32) (harg1 : arg1.IsWhole) (arg2 : Memref sig .tc .vmem S128x256 .f32) (harg2 : arg2.IsWhole) (arg3 : Memref sig .tc .vmem S16384x256 .f32) (harg3 : arg3.IsWhole) (arg4 : Memref sig .tc .vmem S16384x128 .f32) (harg4 : arg4.IsWhole) (arg5 : Memref sig .tc .vmem S16384x128 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1 .i32) (harg9 : arg9.IsWhole)
    (x0 : Vec F S1 .i32) (x1 : Vec F S128x256 .f32) (x2 : Vec F S16384x256 .f32) (x3 : Vec F S16384x128 .f32) (x4 : Vec F S16384x128 .f32) (x5 : Vec F S256x128 .f32) (x6 : Vec F S128x256 .f32) : Vec F S128x1 .i32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 x0 x1 x2 x3 x4 x5 x6).2.1)

/-! ## What the outputs hold after each point -/

/-- What the outputs' staging buffers hold after the body at point `t` (as a tuple, in window order): the run's contents at
    the point's memrefs and input blocks. -/
def outsAt2 (c : Dev nD) (t : Fin cfg2.N) : Vec F S128x256 .f32 × Vec F S128x1 .i32 :=
  (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (iblk2 V c 6 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UU) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t).1
    | ⟨8, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t).1 := by dsimp only [dat2]
theorem after2_8 (c : Dev nD) (t : Fin cfg2.N) : (dat2 V c).after 8 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 800000 in
/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  unfold outsAt2
  unfold out2_A_7 out2_A_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun2_A c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover2_A_7 c _ _ _ _ _ _ _ _ _ _ _ _ _ _ _ _ _ _ _ _ _ _ _ _ _ _)
  unfold owns; iexists _; isplitr
  swap; · iexact H8
  ipureintro; exact View.read_writes_of_cover _ _ _ _ _ (cover2_A_8 c _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdeal.Run.lean ====
/- The whole run of the program: its host stretches, its two unconditional launches and the host branch whose taken arm is the third
   launch, as segments from the launch memory to the return. The buffers' contents at every boundary are a fold `W0 … W9`. -/
module

public import proofs.«01_k».proof.Proof.KernelIdeal.Region0
public import proofs.«01_k».proof.Proof.KernelIdeal.Region1
public import proofs.«01_k».proof.Proof.KernelIdeal.Region2

@[expose] public section

-- membership in a rectangle of production extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4, main_arg5, main_arg6]

/-- The read before the branch: the flag widened to the word that names the arm, and the constant printed after it. -/
abbrev rdOps : List (HloOp τ sig (Elt F)) :=
  [ StableHlo.unary main_v6 main_v7 ((extui 32 · natLt_1_32) : (⟨S_, .i1⟩ : BufTy).Contents (Elt F) → (⟨S_, .i32⟩ : BufTy).Contents (Elt F)),
    StableHlo.nullary main_c_1 (constantI S_ 32 0#32) ]
/-- The copies of the branch's untaken arm: the fast launch's two results. -/
abbrev armOps0 : List (HloOp τ sig (Elt F)) := [ StableHlo.unary main_v4_0 main_v8_0 id, StableHlo.unary main_v4_1 main_v8_1 id ]
/-- The copies of the branch's taken arm: the tie-breaking launch's two results. -/
abbrev armOps1 : List (HloOp τ sig (Elt F)) := [ StableHlo.unary main_case0b1_v11_0 main_v8_0 id, StableHlo.unary main_case0b1_v11_1 main_v8_1 id ]

theorem rdOps_sub : (rdOps : List (HloOp τ sig (Elt F))).Forall fun op => op.bufs ⊆ StableHlo.tcRefs τ sig :=
  ⟨StableHlo.unary_bufs_sub .., StableHlo.nullary_bufs_sub ..⟩
theorem armOps0_sub : (armOps0 : List (HloOp τ sig (Elt F))).Forall fun op => op.bufs ⊆ StableHlo.tcRefs τ sig :=
  ⟨StableHlo.unary_bufs_sub .., StableHlo.unary_bufs_sub ..⟩
theorem armOps1_sub : (armOps1 : List (HloOp τ sig (Elt F))).Forall fun op => op.bufs ⊆ StableHlo.tcRefs τ sig :=
  ⟨StableHlo.unary_bufs_sub .., StableHlo.unary_bufs_sub ..⟩

/-! ## Each host stretch: none of its operations allocates, the references it writes in order, no argument among them -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_c, main_v5, main_c_0, main_v6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem rdOps_fresh : (rdOps : List (HloOp τ sig (Elt F))).Forall fun op => op.fresh = ∅ := by
  simp only [List.Forall]; repeat' constructor
/-- The reference each operation of `rdOps` writes, in order. -/
abbrev rdOps_W : List (Ref sig .tc) := [main_v7, main_c_1]
theorem rdOps_writes : (rdOps : List (HloOp τ sig (Elt F))).Forall fun op => op.writes ⊆ (rdOps_W.map (Proc.devRef (τ := τ) .tc)).toFinset :=
  StableHlo.forall_writes_sub_of_map rfl
theorem rdOps_args : ∀ a ∈ argRefs, a ∉ rdOps_W := ListAll.forall_mem_of_all_decide (by decide +kernel)

theorem armOps0_fresh : (armOps0 : List (HloOp τ sig (Elt F))).Forall fun op => op.fresh = ∅ := by
  simp only [List.Forall]; repeat' constructor
/-- The reference each operation of `armOps0` writes, in order. -/
abbrev armOps0_W : List (Ref sig .tc) := [main_v8_0, main_v8_1]
theorem armOps0_writes : (armOps0 : List (HloOp τ sig (Elt F))).Forall fun op => op.writes ⊆ (armOps0_W.map (Proc.devRef (τ := τ) .tc)).toFinset :=
  StableHlo.forall_writes_sub_of_map rfl
theorem armOps0_args : ∀ a ∈ argRefs, a ∉ armOps0_W := ListAll.forall_mem_of_all_decide (by decide +kernel)

theorem armOps1_fresh : (armOps1 : List (HloOp τ sig (Elt F))).Forall fun op => op.fresh = ∅ := by
  simp only [List.Forall]; repeat' constructor
/-- The reference each operation of `armOps1` writes, in order. -/
abbrev armOps1_W : List (Ref sig .tc) := [main_v8_0, main_v8_1]
theorem armOps1_writes : (armOps1 : List (HloOp τ sig (Elt F))).Forall fun op => op.writes ⊆ (armOps1_W.map (Proc.devRef (τ := τ) .tc)).toFinset :=
  StableHlo.forall_writes_sub_of_map rfl
theorem armOps1_args : ∀ a ∈ argRefs, a ∉ armOps1_W := ListAll.forall_mem_of_all_decide (by decide +kernel)

theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_v9, main_c_2, main_v10]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

/-! ## The buffer contents at each segment boundary -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (before the branch). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- After `rdOps`: the branch's word is read (region 2's entry). -/
abbrev W6 : Dev nD → Valuation τ sig (Elt F) := fun c => StableHlo.after rdOps (W5 m ρ c)
/-- A reference `rdOps` does not write keeps its contents across it. -/
theorem W6_of (c : Dev nD) (r : Ref sig .tc) (h : r ∉ rdOps_W) : W6 m ρ c (Proc.devRef .tc r) = W5 m ρ c (Proc.devRef .tc r) :=
  StableHlo.after_of_writes_sub rdOps _ rdOps_writes h
theorem W6_args (c : Dev nD) : ∀ a ∈ argRefs, W6 m ρ c (Proc.devRef .tc a) = m ((c : Thread nD τ).loc a) :=
  fun a ha => (W6_of m ρ c a (rdOps_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- The word that names the arm. -/
abbrev word (c : Dev nD) : BitVec 32 := StableHlo.after [StableHlo.unary main_v6 main_v7 ((extui 32 · natLt_1_32) : (⟨S_, .i1⟩ : BufTy).Contents (Elt F) → (⟨S_, .i32⟩ : BufTy).Contents (Elt F))] (W5 m ρ c) main_v7 HostLoop.idx0
/-- After arm `b`: arm 0 copies the fast launch's results, arm 1 runs the tie-breaking launch and copies its results. -/
abbrev armV (b : Fin 2) : Dev nD → Valuation τ sig (Elt F) := fun c => match b with
  | 0 => StableHlo.after armOps0 (W6 m ρ c)
  | 1 => StableHlo.after armOps1 (W7 m ρ c)
theorem armV_args (b : Fin 2) (c : Dev nD) : ∀ a ∈ argRefs, armV m ρ b c (Proc.devRef .tc a) = m ((c : Thread nD τ).loc a) := fun a ha => by
  match b with
  | 0 => exact (StableHlo.after_of_writes_sub armOps0 _ armOps0_writes (armOps0_args a ha)).trans (W6_args m ρ c a ha)
  | 1 => exact (StableHlo.after_of_writes_sub armOps1 _ armOps1_writes (armOps1_args a ha)).trans (W7_args m ρ c a ha)
/-- After the branch: the arm that the word names. -/
abbrev W8 : Dev nD → Valuation τ sig (Elt F) := fun c => armV m ρ (HostLoop.branch (word m ρ c) 1) c
theorem W8_args (c : Dev nD) : ∀ a ∈ argRefs, W8 m ρ c (Proc.devRef .tc a) = m ((c : Thread nD τ).loc a) := armV_args m ρ _ c

/-- After `hostOps2_1` (the end). -/
abbrev W9 : Dev nD → Valuation τ sig (Elt F) := fun c => StableHlo.after hostOps2_1 (W8 m ρ c)
/-- A reference `hostOps2_1` does not write keeps its contents across it. -/
theorem W9_of (c : Dev nD) (r : Ref sig .tc) (h : r ∉ hostOps2_1_W) : W9 m ρ c (Proc.devRef .tc r) = W8 m ρ c (Proc.devRef .tc r) :=
  StableHlo.after_of_writes_sub hostOps2_1 _ hostOps2_1_writes h
theorem W9_args (c : Dev nD) : ∀ a ∈ argRefs, W9 m ρ c (Proc.devRef .tc a) = m ((c : Thread nD τ).loc a) :=
  fun a ha => (W9_of m ρ c a (hostOps2_1_args a ha)).trans (W8_args m ρ c a ha)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ UU ℕ (Pipeline.pin (pcfgs (F := F)) adm p) c
  | ⟨0, _⟩ => fun c => dat0 (V1 m ρ) c
  | ⟨1, _⟩ => fun c => dat1 (V3 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- The program calls no host loop: the loop table is empty. -/
abbrev loops : Fin 0 → Prog (TpuEff nD τ sig (Elt F) (HostLoop.Sig (Pipeline.Sig Λ₀ (Fin 3) fun p => (pcfgs (F := F) p).Adm) 0) .tc) PUnit := fun l => l.elim0
/-- One ticket per region: each is entered at most once. -/
abbrev tk : Fin 3 → Pipeline.Ticket (Ix := Unit) (Name := ℕ) (U := UU) (Lvl := ℕ) (nD := nD) (τ := τ) (pcfgs (F := F)) adm :=
  fun p => { p := p, pdats := pdats m ρ, EP := embAt p }
/-- The segments of this program. -/
abbrev Sg : Type _ := Pipeline.CSeg (pcfgs (F := F)) adm defs₀ 𝒱₀ L lv loops (tk m ρ)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) : Sg m ρ :=
  Pipeline.CSeg.ofOps _ _ _ _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UU) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UU) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UU) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UU) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The branch as a segment -/

/-- The read as printed: the widened flag's element is the word. -/
abbrev rdProg : Prog (TpuEff nD τ sig (Elt F) (HostLoop.Sig (Pipeline.Sig Λ₀ (Fin 3) fun p => (pcfgs (F := F) p).Adm) 0) .tc) (BitVec 32) := do
  let x ← hlo rfl (StableHlo.unary main_v6 main_v7 ((extui 32 · natLt_1_32) : (⟨S_, .i1⟩ : BufTy).Contents (Elt F) → (⟨S_, .i32⟩ : BufTy).Contents (Elt F))) (HostLoop.elt main_v7)
  hlo rfl (StableHlo.nullary main_c_1 (constantI S_ 32 0#32)) (fun _ => .ret ⟨⟩)
  pure x
/-- The arms as printed. -/
abbrev armProg : Fin 2 → Prog (TpuEff nD τ sig (Elt F) (Pipeline.Sig Λ₀ (Fin 3) fun p => (pcfgs (F := F) p).Adm) .tc) PUnit
  | 0 => do
      hlo rfl (StableHlo.unary main_v4_0 main_v8_0 id) (fun _ => .ret ⟨⟩)
      hlo rfl (StableHlo.unary main_v4_1 main_v8_1 id) (fun _ => .ret ⟨⟩)
      pure ⟨⟩
  | 1 => do
      Prog.lift (.customCall (Pipeline.entry 2) ())
      hlo rfl (StableHlo.unary main_case0b1_v11_0 main_v8_0 id) (fun _ => .ret ⟨⟩)
      hlo rfl (StableHlo.unary main_case0b1_v11_1 main_v8_1 id) (fun _ => .ret ⟨⟩)
      pure ⟨⟩
  | ⟨_ + 2, h⟩ => absurd h (Nat.not_lt.2 (Nat.le_add_left _ _))

/-- There is one device, so the arm its word names is the one that can be taken. -/
abbrev alive (b : Fin (1 + 1)) : Prop := ∀ c : Dev nD, b = HostLoop.branch (word m ρ c) 1

/-- The thread state before the branch, and between the read and the arm. -/
abbrev cpre (c : Dev nD) : sProp 𝕄 := iprop(StableHlo.held (c : Thread nD τ) (Pipeline.ucRefs τ sig) (W5 m ρ c) ∗ R c)
abbrev cmid (_ : BitVec 32) (c : Dev nD) : sProp 𝕄 := iprop(StableHlo.held (c : Thread nD τ) (Pipeline.ucRefs τ sig) (W6 m ρ c) ∗ R c)

/-- The arms' segments: arm 0 is its two copies, arm 1 the tie-breaking launch and its two copies. -/
abbrev armSegs : Fin (1 + 1) → List (Sg m ρ)
  | ⟨0, _⟩ => [hseg m ρ armOps0 armOps0_sub armOps0_fresh (W6 m ρ)]
  | ⟨1, _⟩ => [Pipeline.CSeg.region _ _ () cellOf_inj _ _ _ _ _ _ (2 : Fin 3) (reg2 m ρ), hseg m ρ armOps1 armOps1_sub armOps1_fresh (W7 m ρ)]

-- `iapply` of a rule stated for any thread at the TensorCore thread unifies only when unification may unfold
-- plain definitions in a metavariable's type
set_option backward.isDefEq.respectTransparency.types false in
/-- The read, from the state before the branch: two operations, the first one's result read for its element. -/
theorem read_spec (c : Dev nD) (bd : Option (Variants.lift 𝒱₀).V) :
    iprop(boundary (c : Thread nD τ) ∗ cpre m ρ c)
      ⊢ wp frame (wpE (HostLoop.defs loops (Pipeline.defs (pcfgs (F := F)) defs₀)) (Variants.lift 𝒱₀) (c : Thread nD τ) bd) Set.univ (rdProg (F := F))
          (fun v => iprop(⌜alive m ρ (HostLoop.branch v 1)⌝ ∗ boundary (c : Thread nD τ) ∗ cmid m ρ v c)) := by
  unfold rdProg
  rw [wp_bind]
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  rw [wp_bind]
  iapply (StableHlo.wp_hlo_within (Variants.lift 𝒱₀) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  rw [wp_pure]; imodintro
  isplitr
  · ipureintro; intro c'
    rw [Subsingleton.elim c' c]; rfl
  isplitl [Hb]; · iexact Hb
  isplitl [Hh]; · unfold W6; rw [StableHlo.after_cons, StableHlo.after_cons, StableHlo.after_nil]; iexact Hh
  iexact HR

/-- Each arm, lifted, is the run of its segments. -/
theorem arm0_run : HostLoop.liftProg (L := 0) (armProg (F := F) 0) = Pipeline.CSeg.runL (armSegs m ρ 0) := by chain_rfl
theorem arm1_run : HostLoop.liftProg (L := 0) (armProg (F := F) 1) = Pipeline.CSeg.runL (armSegs m ρ 1) := by chain_rfl

/-- Each arm's segments chain from the state after the read to the arm's contents. -/
theorem arm_chain (c : Dev nD) (v : BitVec 32) : ∀ b : Fin (1 + 1), Pipeline.CSeg.ChainsAt c (cmid m ρ v) (armSegs m ρ b)
    (fun c => iprop(StableHlo.held (c : Thread nD τ) (Pipeline.ucRefs τ sig) (armV m ρ b c) ∗ R c))
  | ⟨0, _⟩ => ⟨.rfl, .rfl⟩
  | ⟨1, _⟩ => ⟨.rfl, .rfl, .rfl⟩
/-- The branch ends at the contents of the arm its word names. -/
theorem arm_post (b : Fin (1 + 1)) (hb : alive m ρ b) :
    (fun c : Dev nD => (iprop(StableHlo.held (c : Thread nD τ) (Pipeline.ucRefs τ sig) (armV m ρ b c) ∗ R c) : sProp 𝕄))
      = fun c : Dev nD => iprop(StableHlo.held (c : Thread nD τ) (Pipeline.ucRefs τ sig) (W8 m ρ c) ∗ R c) := by
  funext c; unfold W8; rw [← hb c]
theorem arm_M : ∀ (b : Fin (1 + 1)), ∀ s ∈ armSegs m ρ b, s.M ≤ (Pipeline.pin (pcfgs (F := F)) adm 2).tripCount + 1
  | ⟨0, _⟩ => List.forall_mem_cons.mpr ⟨Nat.zero_le _, fun _ h => nomatch h⟩
  | ⟨1, _⟩ => List.forall_mem_cons.mpr ⟨le_rfl, List.forall_mem_cons.mpr ⟨Nat.zero_le _, fun _ h => nomatch h⟩⟩
theorem arm_T : ∀ (b : Fin (1 + 1)), ∀ s ∈ armSegs m ρ b, s.T ⊆ {2}
  | ⟨0, _⟩ => List.forall_mem_cons.mpr ⟨Finset.empty_subset _, fun _ h => nomatch h⟩
  | ⟨1, _⟩ => List.forall_mem_cons.mpr ⟨subset_rfl, List.forall_mem_cons.mpr ⟨Finset.empty_subset _, fun _ h => nomatch h⟩⟩
theorem arm_dis : ∀ (b : Fin (1 + 1)), (armSegs m ρ b).Pairwise fun s s' => Disjoint s.T s'.T
  | ⟨0, _⟩ => List.pairwise_singleton ..
  | ⟨1, _⟩ => List.pairwise_cons.mpr ⟨List.forall_mem_cons.mpr ⟨Finset.disjoint_empty_right _, fun _ h => nomatch h⟩, List.pairwise_singleton ..⟩

/-- The branch's record. -/
def condW : Pipeline.CaseSeg (pcfgs (F := F)) adm defs₀ 𝒱₀ L lv loops (tk m ρ) where
  on := fun _ => True
  N := 1
  rd := rdProg
  br := fun b => HostLoop.liftProg (L := 0) (armProg b)
  pre := cpre m ρ
  mid := cmid m ρ
  post c := iprop(StableHlo.held (c : Thread nD τ) (Pipeline.ucRefs τ sig) (W8 m ρ c) ∗ R c)
  live := alive m ρ
  hrd := fun c _ bd => read_spec m ρ c bd
  segs := armSegs m ρ
  hch := fun c _ v hv => (arm_post m ρ _ hv) ▸ arm_chain m ρ c v (HostLoop.branch v 1)
  hbr := fun b _ => match b with
    | ⟨0, _⟩ => arm0_run m ρ
    | ⟨1, _⟩ => arm1_run m ρ
  B := (Pipeline.pin (pcfgs (F := F)) adm 2).tripCount + 1
  hM := fun b _ => arm_M m ρ b
  T := {2}
  hT := fun b _ => arm_T m ρ b
  hdisT := fun b _ => arm_dis m ρ b

/-- The branch as one segment. -/
def cond0 : Sg m ρ := Pipeline.CSeg.case _ _ _ _ _ _ _ _ (condW m ρ)

/-! ## @main as segments, and the launch -/

/-- @main's segments in order. -/
abbrev segs : List (Sg m ρ) :=
  [ hseg m ρ hostOps0 hostOps0_sub hostOps0_fresh (W0 m ρ),
    Pipeline.CSeg.region _ _ () cellOf_inj _ _ _ _ _ _ (0 : Fin 3) (reg0 m ρ),
    hseg m ρ hostOps1 hostOps1_sub hostOps1_fresh (W2 m ρ),
    Pipeline.CSeg.region _ _ () cellOf_inj _ _ _ _ _ _ (1 : Fin 3) (reg1 m ρ),
    hseg m ρ hostOps2 hostOps2_sub hostOps2_fresh (W4 m ρ),
    cond0 m ρ,
    hseg m ρ hostOps2_1 hostOps2_1_sub hostOps2_1_fresh (W8 m ρ) ]

/-- The branch's fragment is the printed item, lifted. -/
theorem item_lift (arm : Fin 2 → Prog (TpuEff nD τ sig (Elt F) (Pipeline.Sig Λ₀ (Fin 3) fun p => (pcfgs (F := F) p).Adm) .tc) PUnit) : HostLoop.liftProg (L := 0) (do
      let x_v7 ← hlo rfl (StableHlo.unary main_v6 main_v7 ((extui 32 · natLt_1_32) : (⟨S_, .i1⟩ : BufTy).Contents (Elt F) → (⟨S_, .i32⟩ : BufTy).Contents (Elt F))) (HostLoop.elt main_v7)
      hlo rfl (StableHlo.nullary main_c_1 (constantI S_ 32 0#32)) (fun _ => .ret ⟨⟩)
      HostLoop.case 2 x_v7 arm)
    = (rdProg (F := F) >>= fun x => HostLoop.case (1 + 1) x fun b => HostLoop.liftProg (L := 0) (arm b)) := by
  rw [HostLoop.liftProg_bind]
  unfold rdProg
  rw [Prog.bind_assoc]
  refine congrArg₂ _ rfl (funext fun x => ?_)
  rw [HostLoop.liftProg_bind, Prog.bind_assoc]
  refine congrArg₂ _ rfl (funext fun _ => ?_)
  rw [HostLoop.liftProg_case]; rfl

/-- @main, lifted, is the run of the segments. -/
theorem main_run (c : Dev nD) : HostLoop.liftProg (L := 0) (main (F := F) c) = Pipeline.CSeg.runL (segs m ρ) := by
  rw [main_chain, HostLoop.liftProg_chain]
  simp only [List.map_cons, List.map_nil, HostLoop.liftProg_seq]
  unfold Pipeline.CSeg.runL
  refine congrArg Pipeline.chain ?_
  simp only [List.map_cons, List.map_nil]
  refine congrArg₂ _ rfl (congrArg₂ _ rfl (congrArg₂ _ rfl (congrArg₂ _ rfl (congrArg₂ _ rfl (congrArg₂ _ ?_ rfl)))))
  refine (item_lift (F := F) _).trans ?_
  show _ = (rdProg (F := F) >>= fun x => HostLoop.case (1 + 1) x fun b => HostLoop.liftProg (L := 0) (armProg (F := F) b))
  refine congrArg₂ _ rfl (funext fun x => congrArg (HostLoop.case (1 + 1) x) (funext fun b => ?_))
  match b with
  | ⟨0, _⟩ => rfl
  | ⟨1, _⟩ => rfl

/-- The TensorCore has no unscoped semaphore. -/
theorem no_unscoped : ∀ sm : SemLoc sig, sm.isScoped .tc = true := by decide

set_option backward.isDefEq.respectTransparency.types false in
/-- THE RUN: from any memory with zero counters every weakly fair execution of @main terminates, nothing faulting, and every final
    state has each unscoped buffer at the last boundary's contents `W9` and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W9 m ρ c b) ∧ r.2.sem = fun _ => 0) := by
  refine HostLoop.θ_run_of_lift (L := 0) loops defs main _ _ ?_
  refine Pipeline.θ_run_regions_loop_kit_sems (pcfgs (F := F)) adm cellOf_inj defs₀ 𝒱₀ L lv loops (tk m ρ) m ρ
    (fun d => HostLoop.liftProg (L := 0) (main (F := F) d)) (segs m ρ)
    (fun c Q => by rw [main_run m ρ c])
    (hdis := ?_)
    (O₀ := 0) (hL := fun _ _ => rfl) (G := fun _ => iprop(emp))
    (u₀ := ((fun _ => initOf (Pipeline.cells cfgs cellOf_inj) (Pipeline.launchToks cfgs cellOf_inj) : IProdConst (Fin 3) (UR sig nD τ)), (1 : Counters)))
    (hu₀ := ?_)
    (T₀ := fun c => iprop(StableHlo.held (c : Thread nD τ) (Pipeline.ucRefs τ sig) (W0 m ρ c) ∗ R c)) (Tₙ := Tₙ m ρ)
    (hch := ?_)
    (hinit := ?_)
    (QY := fun c s => ∀ b ∈ Pipeline.ucRefs τ sig, s.mem (((c : Thread nD τ)).1, b) = W9 m ρ c b)
    (hfin := ?_)
    (hQ := fun s h hz => ⟨h, funext fun g => hz g (.inr (no_unscoped g.2))⟩)
  · show List.Pairwise _ (segs m ρ)
    rw [← List.pairwise_map (f := fun s : Sg m ρ => s.T) (R := fun a b => Disjoint a b)]
    show List.Pairwise (fun a b => Disjoint a b) [(∅ : Finset (Fin 3)), {0}, ∅, {1}, ∅, {2}, ∅]
    decide
  · iintro Hu; imodintro
    ihave H := (ownU_pair _ _) $$ Hu
    icases H with ⟨Hl, -⟩
    isplitl [Hl]
    · iapply (own_iprod (nD := nD) (τ := τ) (sig := sig) (Ix := Unit) (Val := Elt F) (Name := ℕ) (Lvl := ℕ) (A := UR sig nD τ) (B := Counters) _)
      iexact Hl
    iapply (show (BI.emp : sProp 𝕄) ⊢ bigSep Finset.univ (fun _ : Dev nD => (BI.emp : sProp 𝕄)) from by rw [BI.bigSep_emp_const])
    iempintro
  · exact ⟨fun _ => .rfl, fun _ => .rfl, fun _ => .rfl, fun _ => .rfl, fun _ => .rfl, fun _ => Pipeline.CSeg.case_pre _ _ _ _ _ _ _ _ (condW m ρ) trivial,
      fun _ => .rfl, fun c => by
        show iprop(StableHlo.held (c : Thread nD τ) (Pipeline.ucRefs τ sig) (W9 m ρ c) ∗ R c) ⊢ _
        iintro ⟨Hh, Hp, HO⟩
        isplitr [HO]
        · isplitl [Hh]; · iexact Hh
          iexact Hp
        iexact HO⟩
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => (((c : Thread nD τ)).1, b)) (W9 m ρ c) s')
    isplitl [Hh] <;> iassumption

/-- THE FRAME, at any floats: every run terminates without a fault, the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W9_args m ρ c main_arg0 (by decide)),
       (h.1 c _ (mem_uc main_arg1 (by decide))).trans (W9_args m ρ c main_arg1 (by decide)),
       (h.1 c _ (mem_uc main_arg2 (by decide))).trans (W9_args m ρ c main_arg2 (by decide)),
       (h.1 c _ (mem_uc main_arg3 (by decide))).trans (W9_args m ρ c main_arg3 (by decide)),
       (h.1 c _ (mem_uc main_arg4 (by decide))).trans (W9_args m ρ c main_arg4 (by decide)),
       (h.1 c _ (mem_uc main_arg5 (by decide))).trans (W9_args m ρ c main_arg5 (by decide)),
       (h.1 c _ (mem_uc main_arg6 (by decide))).trans (W9_args m ρ c main_arg6 (by decide))⟩, h.2⟩) (run_all m ρ)

end Cert.KernelIdeal.Gen

end
-- ==== Proof.Frames.lean ====
/- The frames of the three programs: each one runs to its end without a fault from any memory, leaves its arguments
   unchanged and every semaphore counter at zero. -/
module

public import proofs.«01_k».proof.Proof.Kernel.Run
public import proofs.«01_k».proof.Proof.KernelIdeal.Run
public import proofs.«01_k».proof.Proof.Gen.ReferenceIdeal.Run
public import proofs.«01_k».proof.Defs
public import Idealize.ShloMosaic.Adequacy
public import Idealize.ShloMosaic.Init

@[expose] public section

noncomputable section

namespace Cert.Proof

open Idealize.ShloMosaic Idealize.SL.Sem

/-- The kernel's frame over the machine's floats: any run ends, faultless, arguments unchanged, counters at zero. -/
theorem frame_p : Cert.quiescent_Kernel := fun m ρ _ => Cert.Kernel.Gen.frame m ρ

/-- The idealized kernel's frame over the extended reals. -/
theorem frame_pi : Cert.quiescent_KernelIdeal := fun m ρ _ => Cert.KernelIdeal.Gen.frame m ρ

/-- The idealized reference's frame over the extended reals; it declares no semaphore at all. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The two named constants mean what the table says: the scale is the reciprocal square root of 128 and the mask is
    minus infinity over the extended reals, and both are the printed words over the machine's floats. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xCE6E6B28#32 ⊥ rfl⟩

end Cert.Proof

end
-- ==== Proof.KernelIdeal.Rounds.lean ====
/- The two attention kernels' stored values, named: the similarity block, the selection rounds (all positions of the maximum,
   or the first one), the fast selection's check, and the attention both end in.  Every payload the kernels were cut into is
   one of these compositions. -/
module

public import proofs.«01_k».proof.Proof.KernelIdeal.Region0
public import proofs.«01_k».proof.Proof.KernelIdeal.Region1
public import proofs.«01_k».proof.Proof.KernelIdeal.Region2

@[expose] public section

set_option maxRecDepth 16384

noncomputable section

namespace Cert.KernelIdeal.Gen

open Idealize.ShloMosaic Idealize.ShloMosaic.TcCoe Idealize.ShloMosaic.Tactic
open Idealize.SL.ProofMode Idealize.SL.Sem

variable {F : FTy → Type} [FloatOps F] [Named F]

/-- A block's row maxima, as a column. -/
def rowsMax (w : FVec F S128x16384 .f32) : FVec F S128x1 .f32 :=
  shapeCast S128x1 (multiReduction .maximumf [1] S128 w 0xFF800000#32 reduces_S128x16384_S128 (.inl rfl) rfl) shapeCasts_S128_S128x1

/-- A block's row sums, as a column. -/
def rowsSum (w : FVec F S128x16384 .f32) : FVec F S128x1 .f32 :=
  shapeCast S128x1 (multiReduction .add [1] S128 w 0x00000000#32 reduces_S128x16384_S128 (.inl rfl) rfl) shapeCasts_S128_S128x1

/-- A column spread along the rows. -/
abbrev wide (x : FVec F S128x1 .f32) : FVec F S128x16384 .f32 := broadcastTo S128x16384 x broadcasts_S128x1_S128x16384

/-- The mark a selected position gets. -/
abbrev marks : FVec F S128x16384 .f32 := broadcast S128x16384 (Scalar.ofBits .f32 0xC0400000#32)

/-- One fast round: every position of its row's maximum is marked. -/
def fround (w : FVec F S128x16384 .f32) : FVec F S128x16384 .f32 := select (cmpf .oeq w (wide (rowsMax w))) marks w

/-- The columns' indices. -/
abbrev cols : IVec S128x16384 32 := iota .tc S128x16384 32 [1] iota_S128x16384_d1_w32

/-- The first position of each row's maximum, spread along the row, from the positions selected as its maximum. -/
abbrev firsts (x : IVec S128x16384 32) : IVec S128x16384 32 :=
  broadcastTo S128x16384 (shapeCast S128x1 (multiReductionI .minsi [1] S128 x 2147483647#32 reduces_S128x16384_S128 rfl)
    shapeCasts_S128_S128x1) broadcasts_S128x1_S128x16384

/-- One exact round: the first position of each row's maximum is marked. -/
def eround (w : FVec F S128x16384 .f32) : FVec F S128x16384 .f32 :=
  select (cmpi .eq cols (firsts (select (cmpf .oeq w (wide (rowsMax w))) cols (broadcast S128x16384 16385#32)))) marks w

/-- The positions the rounds marked. -/
def selOf (w : FVec F S128x16384 .f32) : IVec S128x16384 1 :=
  cmpf .olt w (broadcast S128x16384 (Scalar.ofBits .f32 0xC0000000#32))

/-- The sum of the first `k` rounds' maxima. -/
def maxSum (w : FVec F S128x16384 .f32) : ℕ → FVec F S128x1 .f32
  | 0 => broadcast S128x1 (Scalar.ofBits .f32 0x00000000#32)
  | k + 1 => addf (maxSum w k) (rowsMax (fround^[k] w))

/-- The fast selection's check of a row: 1 where the rounds took more than one mark each. -/
def badOf (w : FVec F S128x16384 .f32) : IVec S128x1 32 :=
  k1_pay45 (rowsSum (fround^[16] w)) (subf (rowsSum w) (maxSum w 16)) (Scalar.ofBits .f32 0x42400000#32)

/-- The output block from the kept positions. -/
def outOf (q : FVec F S128x256 .f32) (sim : FVec F S128x16384 .f32) (cs : BitVec 32) (sel : IVec S128x16384 1)
    (wq : Vec F S256x128 .f32) (k v : Vec F S16384x128 .f32) (wo : Vec F S128x256 .f32) : FVec F S128x256 .f32 :=
  k1_pay1 (k1_pay47 q sim cs sel wq k) v wo

/-- One more round. -/
theorem iter_succ {α : Type} (f : α → α) (n : ℕ) (x : α) : f (f^[n] x) = f^[n + 1] x := (Function.iterate_succ_apply' f n x).symm

section Fast
variable (q : Vec F S128x256 .f32) (kn : Vec F S16384x256 .f32)

theorem k1_w4 : k1_pay10 q kn = fround^[4 - 1] (k1_pay4 q kn) := by
  have h1 : k1_pay6 q kn = fround (k1_pay4 q kn) := rfl
  have h2 : k1_pay8 q kn = fround (k1_pay6 q kn) := rfl
  have h3 : k1_pay10 q kn = fround (k1_pay8 q kn) := rfl
  rw [h3, h2, h1]; rfl

theorem k1_m4 : k1_pay12 q kn = maxSum (k1_pay4 q kn) 4 := by
  have h1 : k1_pay6 q kn = fround (k1_pay4 q kn) := rfl
  have h2 : k1_pay8 q kn = fround (k1_pay6 q kn) := rfl
  have h : k1_pay12 q kn = addf (addf (addf (addf (broadcast S128x1 (Scalar.ofBits .f32 0x00000000#32)) (rowsMax (k1_pay4 q kn)))
    (rowsMax (k1_pay6 q kn))) (rowsMax (k1_pay8 q kn))) (rowsMax (k1_pay10 q kn)) := rfl
  rw [h, k1_w4, h2, h1]; rfl

/-- The middle part's rounds, from the block after three rounds. -/
theorem k1_w11 (w : FVec F S128x16384 .f32) :
    k1_pay27 w (cmpf .oeq w (wide (rowsMax w))) k1_pay14 = fround^[7] w := by
  generalize hb : cmpf .oeq w (wide (rowsMax w)) = b
  have h1 : k1_pay15 w b k1_pay14 = fround w := by rw [← hb]; rfl
  have h2 : k1_pay17 w b k1_pay14 = fround (k1_pay15 w b k1_pay14) := rfl
  have h3 : k1_pay19 w b k1_pay14 = fround (k1_pay17 w b k1_pay14) := rfl
  have h4 : k1_pay21 w b k1_pay14 = fround (k1_pay19 w b k1_pay14) := rfl
  have h5 : k1_pay23 w b k1_pay14 = fround (k1_pay21 w b k1_pay14) := rfl
  have h6 : k1_pay25 w b k1_pay14 = fround (k1_pay23 w b k1_pay14) := rfl
  have h7 : k1_pay27 w b k1_pay14 = fround (k1_pay25 w b k1_pay14) := rfl
  rw [h7, h6, h5, h4, h3, h2, h1]; rfl

/-- The middle part's maxima. -/
theorem k1_m11 (w : FVec F S128x16384 .f32) (s : FVec F S128x1 .f32) :
    k1_pay29 w s (cmpf .oeq w (wide (rowsMax w))) k1_pay14
      = addf (addf (addf (addf (addf (addf (addf s (rowsMax (fround^[1] w))) (rowsMax (fround^[2] w))) (rowsMax (fround^[3] w)))
          (rowsMax (fround^[4] w))) (rowsMax (fround^[5] w))) (rowsMax (fround^[6] w))) (rowsMax (fround^[7] w)) := by
  generalize hb : cmpf .oeq w (wide (rowsMax w)) = b
  have h1 : k1_pay15 w b k1_pay14 = fround^[1] w := by rw [← hb]; rfl
  have h2 : k1_pay17 w b k1_pay14 = fround (k1_pay15 w b k1_pay14) := rfl
  have h3 : k1_pay19 w b k1_pay14 = fround (k1_pay17 w b k1_pay14) := rfl
  have h4 : k1_pay21 w b k1_pay14 = fround (k1_pay19 w b k1_pay14) := rfl
  have h5 : k1_pay23 w b k1_pay14 = fround (k1_pay21 w b k1_pay14) := rfl
  have h6 : k1_pay25 w b k1_pay14 = fround (k1_pay23 w b k1_pay14) := rfl
  have h7 : k1_pay27 w b k1_pay14 = fround (k1_pay25 w b k1_pay14) := rfl
  rw [h1, iter_succ fround] at h2; rw [h2, iter_succ fround] at h3; rw [h3, iter_succ fround] at h4; rw [h4, iter_succ fround] at h5
  rw [h5, iter_succ fround] at h6; rw [h6, iter_succ fround] at h7
  rw [← h1, ← h2, ← h3, ← h4, ← h5, ← h6, ← h7]
  rfl

/-- The last part's rounds, from the block after ten. -/
theorem k1_w16 (w : FVec F S128x16384 .f32) : k1_pay41 w (wide (rowsMax w)) = fround^[6] w := by
  generalize hb : wide (rowsMax w) = b
  have h1 : k1_pay31 w b = fround w := by rw [← hb]; rfl
  have h2 : k1_pay33 w b = fround (k1_pay31 w b) := rfl
  have h3 : k1_pay35 w b = fround (k1_pay33 w b) := rfl
  have h4 : k1_pay37 w b = fround (k1_pay35 w b) := rfl
  have h5 : k1_pay39 w b = fround (k1_pay37 w b) := rfl
  have h6 : k1_pay41 w b = fround (k1_pay39 w b) := rfl
  rw [h6, h5, h4, h3, h2, h1]; rfl

/-- The last part's maxima, taken from the similarities' sum. -/
theorem k1_m16 (x w : FVec F S128x16384 .f32) (s : FVec F S128x1 .f32) :
    k1_pay44 x w s (wide (rowsMax w))
      = subf (rowsSum x) (addf (addf (addf (addf (addf s (rowsMax (fround^[1] w))) (rowsMax (fround^[2] w))) (rowsMax (fround^[3] w)))
          (rowsMax (fround^[4] w))) (rowsMax (fround^[5] w))) := by
  generalize hb : wide (rowsMax w) = b
  have h1 : k1_pay31 w b = fround^[1] w := by rw [← hb]; rfl
  have h2 : k1_pay33 w b = fround (k1_pay31 w b) := rfl
  have h3 : k1_pay35 w b = fround (k1_pay33 w b) := rfl
  have h4 : k1_pay37 w b = fround (k1_pay35 w b) := rfl
  have h5 : k1_pay39 w b = fround (k1_pay37 w b) := rfl
  rw [h1, iter_succ fround] at h2; rw [h2, iter_succ fround] at h3; rw [h3, iter_succ fround] at h4; rw [h4, iter_succ fround] at h5
  rw [← h1, ← h2, ← h3, ← h4, ← h5]
  rfl

/-- The block after ten rounds, as the kernel's parts hand it on. -/
theorem k1_v84 : k1_pay27 (k1_pay10 q kn) (k1_pay13 q kn) k1_pay14 = fround^[10] (k1_pay4 q kn) := by
  have h : k1_pay13 q kn = cmpf .oeq (k1_pay10 q kn) (wide (rowsMax (k1_pay10 q kn))) := rfl
  rw [h, k1_w11, k1_w4, ← Function.iterate_add_apply]

theorem k1_v87 : k1_pay29 (k1_pay10 q kn) (k1_pay12 q kn) (k1_pay13 q kn) k1_pay14 = maxSum (k1_pay4 q kn) 11 := by
  have h : k1_pay13 q kn = cmpf .oeq (k1_pay10 q kn) (wide (rowsMax (k1_pay10 q kn))) := rfl
  rw [h, k1_m11, k1_m4, k1_w4]
  simp only [← Function.iterate_add_apply]
  rfl

theorem k1_v88 : k1_pay30 (k1_pay10 q kn) (k1_pay13 q kn) k1_pay14 = wide (rowsMax (fround^[10] (k1_pay4 q kn))) := by
  rw [← k1_v84]; rfl

end Fast

section Exact
variable (q : Vec F S128x256 .f32) (kn : Vec F S16384x256 .f32)

/-- What one exact round marks, spread: the first position of the maximum. -/
abbrev nexts (w : FVec F S128x16384 .f32) : IVec S128x16384 32 := select (cmpf .oeq w (wide (rowsMax w))) cols (broadcast S128x16384 16385#32)

theorem k2_w2 : k2_pay5 q kn = eround (eround (k2_pay4 q kn)) := by rfl
theorem k2_m2 : k2_pay6 q kn = wide (rowsMax (k2_pay5 q kn)) := by rfl
theorem k2_w6 (w : FVec F S128x16384 .f32) : k2_pay7 cols w (wide (rowsMax w)) = eround (eround (eround (eround w))) := by rfl
theorem k2_w9 (w : FVec F S128x16384 .f32) : k2_pay8 cols w = eround (eround (eround w)) := by rfl
theorem k2_i9 (w : FVec F S128x16384 .f32) : k2_pay9 cols w = firsts (nexts (k2_pay8 cols w)) := by rfl
theorem k2_w13 (w : FVec F S128x16384 .f32) : k2_pay10 cols w (firsts (nexts w)) = eround (eround (eround (eround w))) := by rfl
theorem k2_i13 (w : FVec F S128x16384 .f32) (i : IVec S128x16384 32) : k2_pay11 cols w i = nexts (k2_pay10 cols w i) := by rfl
theorem k2_keep (sim w : FVec F S128x16384 .f32) (cs : BitVec 32) :
    k2_pay12 sim cs cols w (nexts w) = k1_pay46 sim cs (selOf (eround (eround (eround w)))) := by rfl
theorem k2_sim : k2_pay4 q kn = k1_pay4 q kn := by rfl
theorem k2_q : k2_pay3 q = k1_pay3 q := by rfl
theorem k2_cnt (keep : IVec S128x16384 1) : k2_pay2 (F := F) keep = k1_pay2 (F := F) keep := by rfl
theorem k2_out (x : FVec F S128x256 .f32) (sim : FVec F S128x16384 .f32) (cs : BitVec 32) (sel : IVec S128x16384 1)
    (wq : Vec F S256x128 .f32) (k v : Vec F S16384x128 .f32) (wo : Vec F S128x256 .f32) :
    k2_pay1 (k1_pay46 sim cs sel) (k2_pay13 x wq) k v wo = outOf x sim cs sel wq k v wo := by rfl

end Exact

end Cert.KernelIdeal.Gen

end
-- ==== Proof.Top.lean ====
/- The mathematics of a top-k selection by rounds.  A row `s` of `n` extended reals, each a real in [-1, 1].  The stable
   descending sort lists the row's positions; its first `k` are `top s k`.  Two round steps are studied: one marks the first
   position of the row's maximum with -3, the other marks every position of the maximum.  The first computes `top s k` in `k`
   rounds.  The second does so when a sum taken before and after the rounds shows that no round marked two positions. -/
module

public import Idealize.ShloMosaic.Lib.SortFacts
public import Idealize.ShloMosaic.Lib.PlanTiles.StableSort
public import Mathlib.Data.EReal.Operations
public import Mathlib.Algebra.BigOperators.Fin
public import Mathlib.Tactic.Linarith
public import Mathlib.Tactic.Ring

@[expose] public section

noncomputable section

namespace Cert.Top

open Idealize.ShloMosaic

variable {n : Nat} (s : Fin n → EReal)

/-- The position the stable descending sort of `s` puts at place `k`. -/
def src : Fin n → Fin n := sortedFrom fun k k' => decide (s k' < s k)

/-- How many entries of the row lie strictly below position `j`'s. -/
def below (j : Fin n) : Nat := (Finset.univ.filter fun i => s i < s j).card

/-- Counting the smaller entries orders positions as their entries do. -/
theorem below_lt (x y : Fin n) : below s y < below s x ↔ s y < s x := by
  constructor
  · intro h
    by_contra hc
    refine absurd h (not_lt.mpr (Finset.card_le_card fun i hi => ?_))
    simp only [Finset.mem_filter, Finset.mem_univ, true_and] at hi ⊢
    exact lt_of_lt_of_le hi (not_lt.mp hc)
  · intro h
    refine Finset.card_lt_card ⟨fun i hi => ?_, fun hsub => ?_⟩
    · simp only [Finset.mem_filter, Finset.mem_univ, true_and] at hi ⊢
      exact lt_trans hi h
    · have := hsub (show y ∈ Finset.univ.filter fun i => s i < s x by simpa using h)
      simp at this

/-- The sort's earlier place holds the larger entry, and of two equal entries the one at the lower position. -/
theorem src_order {i j : Fin n} (hij : i < j) : s (src s j) < s (src s i) ∨ (s (src s j) = s (src s i) ∧ src s i < src s j) := by
  have hR : (fun k k' : Fin n => decide (s k' < s k)) = fun k k' => decide (below s k' < below s k) := by
    funext k k'; exact decide_eq_decide.mpr (below_lt s k k').symm
  have hp := List.pairwise_iff_get.mp (PlanTiles.pairwise_stableSort_lex (below s) (fun a b : Fin n => a < b)
    (List.finRange n) (List.pairwise_lt_finRange n))
  have := hp (i.cast (length_sortPositions n _).symm) (j.cast (length_sortPositions n _).symm) hij
  have hs : ∀ k, src s k = (stableSort (fun k k' => decide (below s k' < below s k)) (List.finRange n)).get
      (k.cast (length_sortPositions n _).symm) := by
    intro k; unfold src; rw [hR]; rfl
  rw [hs i, hs j]
  rcases this with h | ⟨h, h'⟩
  · exact .inl ((below_lt s _ _).mp h)
  · refine .inr ⟨le_antisymm ?_ ?_, h'⟩
    · exact not_lt.mp fun hc => absurd ((below_lt s _ _).mpr hc) (by rw [h]; exact lt_irrefl _)
    · exact not_lt.mp fun hc => absurd ((below_lt s _ _).mpr hc) (by rw [h]; exact lt_irrefl _)

/-- The sort has no place twice. -/
theorem src_inj : Function.Injective (src s) := sortedFrom_injective _
/-- The sort has every place. -/
theorem src_surj : Function.Surjective (src s) := sortedFrom_surjective _

/-- The positions of the row's `k` first entries in the sort's order. -/
def top (k : Nat) : Finset (Fin n) := (Finset.univ.filter fun i : Fin n => i.val < k).image (src s)

/-- The sort's `i`-th place is among the first `k` exactly when `i < k`. -/
theorem src_mem_top (i : Fin n) (k : Nat) : src s i ∈ top s k ↔ i.val < k := by
  unfold top
  constructor
  · intro h
    obtain ⟨i', hi', he⟩ := Finset.mem_image.mp h
    rw [← src_inj s he]; simpa using hi'
  · intro h; exact Finset.mem_image.mpr ⟨i, by simpa using h, rfl⟩

/-- The first none. -/
theorem top_zero : top s 0 = ∅ := by simp [top]

/-- The first `k + 1` are the first `k` and the next one. -/
theorem top_succ {k : Nat} (hk : k < n) : top s (k + 1) = insert (src s ⟨k, hk⟩) (top s k) := by
  ext j
  obtain ⟨i, rfl⟩ := src_surj s j
  rw [Finset.mem_insert, src_mem_top, src_mem_top, (src_inj s).eq_iff, Fin.ext_iff]
  simp only
  omega

/-- The row with the positions of `S` marked by -3. -/
def mark (S : Finset (Fin n)) (j : Fin n) : EReal := if j ∈ S then ((-3 : ℝ) : EReal) else s j

/-- A struck-out row read at the sort's places. -/
theorem mark_src (k : Nat) (i : Fin n) : mark s (top s k) (src s i) = if i.val < k then ((-3 : ℝ) : EReal) else s (src s i) :=
  if_congr (src_mem_top s i k) rfl rfl

/-- The largest entry of a row (minus infinity of an empty one). -/
def rmax (w : Fin n → EReal) : EReal := Finset.univ.fold max ⊥ w

/-- An entry is at most the row's maximum. -/
theorem le_rmax (w : Fin n → EReal) (j : Fin n) : w j ≤ rmax w :=
  ((Finset.fold_max_le (rmax w)).mp le_rfl).2 j (Finset.mem_univ j)

/-- An entry that no other exceeds is the row's maximum. -/
theorem rmax_eq {w : Fin n → EReal} {j : Fin n} (h : ∀ i, w i ≤ w j) : rmax w = w j :=
  le_antisymm ((Finset.fold_max_le _).mpr ⟨bot_le, fun i _ => h i⟩) (le_rmax w j)

/-- The maximum is attained. -/
theorem exists_rmax (w : Fin n → EReal) (hn : 0 < n) : ∃ j, w j = rmax w := by
  obtain ⟨j, _, hj⟩ := Finset.exists_max_image Finset.univ w ⟨⟨0, hn⟩, Finset.mem_univ _⟩
  exact ⟨j, (rmax_eq fun i => hj i (Finset.mem_univ i)).symm⟩

/-- One round of the exact selection: the first position of the maximum is marked. -/
def estep (w : Fin n → EReal) (j : Fin n) : EReal :=
  if w j = rmax w ∧ ∀ i, i < j → w i ≠ rmax w then ((-3 : ℝ) : EReal) else w j

/-- One round of the fast selection: every position of the maximum is marked. -/
def fstep (w : Fin n → EReal) (j : Fin n) : EReal := if w j = rmax w then ((-3 : ℝ) : EReal) else w j

/-- An exact round at a place. -/
theorem estep_apply (w : Fin n → EReal) (j : Fin n) :
    estep w j = if w j = rmax w ∧ ∀ i, i < j → ¬ w i = rmax w then ((-3 : ℝ) : EReal) else w j := rfl

/-- A fast round at a place. -/
theorem fstep_apply (w : Fin n → EReal) (j : Fin n) : fstep w j = if w j = rmax w then ((-3 : ℝ) : EReal) else w j := rfl

/-- Where the maximum is held once, marking every position of it is marking the first. -/
theorem fstep_eq_estep {w : Fin n → EReal} (h : ∀ i j, w i = rmax w → w j = rmax w → i = j) : fstep w = estep w := by
  funext j
  unfold fstep estep
  by_cases hj : w j = rmax w
  · rw [if_pos hj, if_pos ⟨hj, fun i hi he => absurd hi (by rw [h i j he hj]; exact lt_irrefl _)⟩]
  · rw [if_neg hj, if_neg fun h => hj h.1]

section
variable (hs : ∀ j, ((-1 : ℝ) : EReal) ≤ s j)
include hs

/-- Every similarity exceeds −3. -/
theorem neg3_lt (j : Fin n) : ((-3 : ℝ) : EReal) < s j := lt_of_lt_of_le (EReal.coe_lt_coe_iff.mpr (by norm_num)) (hs j)

/-- With the first `k` marked, the largest entry left is the sort's entry at place `k`. -/
theorem rmax_mark {k : Nat} (hk : k < n) : rmax (mark s (top s k)) = s (src s ⟨k, hk⟩) := by
  have hself : mark s (top s k) (src s ⟨k, hk⟩) = s (src s ⟨k, hk⟩) := by
    unfold mark; rw [if_neg]; rw [src_mem_top]; exact lt_irrefl _
  rw [← hself]
  refine rmax_eq fun i => ?_
  rw [hself]
  obtain ⟨i, rfl⟩ := src_surj s i
  unfold mark
  split
  · exact (neg3_lt s hs _).le
  · rename_i h
    rw [src_mem_top, not_lt] at h
    rcases eq_or_lt_of_le h with h | h
    · exact le_of_eq (by congr 2; exact Fin.ext h.symm)
    · rcases src_order s (i := ⟨k, hk⟩) (j := i) h with h | ⟨h, _⟩
      · exact h.le
      · exact h.le

/-- A position holds the largest entry left exactly when it is unmarked and holds the sort's entry at place `k`. -/
theorem mark_eq_max {k : Nat} (hk : k < n) (i : Fin n) :
    mark s (top s k) (src s i) = rmax (mark s (top s k)) ↔ k ≤ i.val ∧ s (src s i) = s (src s ⟨k, hk⟩) := by
  rw [rmax_mark s hs hk]
  rw [mark_src]
  split
  · rename_i h
    constructor
    · intro he; exact absurd he (neg3_lt s hs _).ne
    · intro he; omega
  · rename_i h
    exact ⟨fun he => ⟨not_lt.mp h, he⟩, fun he => he.2⟩

/-- An exact round strikes out the next place of the sort. -/
theorem estep_mark {k : Nat} (hk : k < n) : estep (mark s (top s k)) = mark s (top s (k + 1)) := by
  funext j
  obtain ⟨i, rfl⟩ := src_surj s j
  have hfirst : (mark s (top s k) (src s i) = rmax (mark s (top s k)) ∧
      ∀ i', i' < src s i → mark s (top s k) i' ≠ rmax (mark s (top s k))) ↔ i.val = k := by
    constructor
    · rintro ⟨h1, h2⟩
      obtain ⟨h3, h4⟩ := (mark_eq_max s hs hk i).mp h1
      by_contra hne
      have hlt : (⟨k, hk⟩ : Fin n) < i := by rw [Fin.lt_def]; simp only; omega
      rcases src_order s hlt with h | ⟨_, h⟩
      · exact absurd h4 h.ne
      · exact h2 _ h ((mark_eq_max s hs hk ⟨k, hk⟩).mpr ⟨le_rfl, rfl⟩)
    · intro h
      have hi : i = ⟨k, hk⟩ := Fin.ext h
      subst hi
      refine ⟨(mark_eq_max s hs hk _).mpr ⟨le_rfl, rfl⟩, fun i' hi' he => ?_⟩
      obtain ⟨i', rfl⟩ := src_surj s i'
      obtain ⟨h3, h4⟩ := (mark_eq_max s hs hk i').mp he
      rcases eq_or_lt_of_le (show (⟨k, hk⟩ : Fin n) ≤ i' from h3) with h | h
      · exact absurd hi' (by rw [← h]; exact lt_irrefl _)
      · rcases src_order s h with h | ⟨_, h⟩
        · exact absurd h4 h.ne
        · exact absurd hi' (not_lt.mpr h.le)
  unfold estep
  rw [if_congr hfirst rfl rfl]
  rw [mark_src, mark_src]
  split_ifs <;> first | rfl | (exfalso; omega)

/-- The exact rounds compute the marked row of the first `k`. -/
theorem estep_iter {k : Nat} (hk : k ≤ n) : estep^[k] s = mark s (top s k) := by
  induction k with
  | zero => funext j; simp [mark, top_zero]
  | succ k ih => rw [Function.iterate_succ_apply', ih (by omega), estep_mark s hs (by omega)]

/-- Fast rounds whose sums balance to within one marked no position twice, so they mark the sort's first `K` positions:
    `f k` is the row after `k` rounds, `m k` its maximum, and the left side of `hnb` is what the rounds took from the row's sum
    beyond one maximum and three per round. -/
theorem fstep_iter (f : ℕ → Fin n → ℝ) (m : ℕ → ℝ) (hf : ∀ k j, fstep^[k] s j = (f k j : EReal))
    (hm : ∀ k, rmax (fstep^[k] s) = (m k : EReal)) (hm3 : ∀ k, -3 ≤ m k) {K : ℕ} (hK : K ≤ n)
    (hnb : -1 ≤ ∑ j, f K j - ((∑ j, f 0 j - ∑ k ∈ Finset.range K, m k) - 3 * K)) : fstep^[K] s = mark s (top s K) := by
  set d : ℕ → ℝ := fun k => ∑ j, f k j - ((∑ j, f 0 j - ∑ i ∈ Finset.range k, m i) - 3 * k) with hd
  set c : ℕ → ℕ := fun k => (Finset.univ.filter fun j => f k j = m k).card with hc
  rcases Nat.eq_zero_or_pos n with hn0 | hn
  · subst hn0; funext j; exact j.elim0
  have hc1 : ∀ k, 1 ≤ c k := fun k => by
    obtain ⟨j, hj⟩ := exists_rmax (fstep^[k] s) hn
    rw [hf, hm, EReal.coe_eq_coe_iff] at hj
    exact Finset.card_pos.mpr ⟨j, by simpa using hj⟩
  have hfs : ∀ k j, f k j - f (k + 1) j = if f k j = m k then m k + 3 else 0 := fun k j => by
    have h := hf (k + 1) j
    rw [Function.iterate_succ_apply', fstep_apply] at h
    simp only [hf, hm, EReal.coe_eq_coe_iff] at h
    split_ifs at h ⊢ with he <;> rw [EReal.coe_eq_coe_iff] at h <;> rw [← h]
    · rw [he]; ring
    · ring
  have hds : ∀ k, d (k + 1) = d k - ((c k : ℝ) - 1) * (m k + 3) := fun k => by
    have h : ∑ j, f k j - ∑ j, f (k + 1) j = c k * (m k + 3) := by
      rw [← Finset.sum_sub_distrib, Finset.sum_congr rfl fun j _ => hfs k j, ← Finset.sum_filter, Finset.sum_const, nsmul_eq_mul]
    simp only [hd, Finset.sum_range_succ]
    push_cast
    linarith
  have hnn : ∀ k, 0 ≤ ((c k : ℝ) - 1) * (m k + 3) := fun k =>
    mul_nonneg (by have := hc1 k; have : (1 : ℝ) ≤ c k := by exact_mod_cast this
                   linarith) (by linarith [hm3 k])
  have hanti : Antitone d := antitone_nat_of_succ_le fun k => by rw [hds]; linarith [hnn k]
  have hd0 : d 0 = 0 := by simp [hd]
  have key : ∀ k, k ≤ K → fstep^[k] s = mark s (top s k) := by
    intro k
    induction k with
    | zero => exact fun _ => by funext j; simp [mark, top_zero]
    | succ k ih =>
      refine fun hk => ?_
      have hw := ih (by omega)
      have hmk : -1 ≤ m k := by
        have h := hm k
        rw [hw, rmax_mark s hs (by omega : k < n)] at h
        have := hs (src s ⟨k, by omega⟩)
        rw [h] at this
        exact EReal.coe_le_coe_iff.mp this
      have h1 : -1 ≤ d (k + 1) := le_trans hnb (hanti hk)
      have h2 : d k ≤ 0 := hd0 ▸ hanti (Nat.zero_le k)
      have hone : c k = 1 := by
        by_contra hne
        have h2c : (2 : ℝ) ≤ c k := by
          have : 2 ≤ c k := by have := hc1 k; omega
          exact_mod_cast this
        have := hds k
        nlinarith
      obtain ⟨a, ha⟩ := Finset.card_eq_one.mp hone
      rw [Function.iterate_succ_apply', fstep_eq_estep, hw, estep_mark s hs (by omega)]
      intro i j hi hj
      rw [hf, hm, EReal.coe_eq_coe_iff] at hi hj
      have hi' : i ∈ Finset.univ.filter fun j => f k j = m k := by simpa using hi
      have hj' : j ∈ Finset.univ.filter fun j => f k j = m k := by simpa using hj
      rw [ha, Finset.mem_singleton] at hi' hj'
      rw [hi', hj']
  exact key K le_rfl

/-- The rows of the fast rounds stay between -3 and 1. -/
theorem fstep_bounds (h1 : ∀ j, s j ≤ ((1 : ℝ) : EReal)) (k : ℕ) (j : Fin n) :
    ((-3 : ℝ) : EReal) ≤ fstep^[k] s j ∧ fstep^[k] s j ≤ ((1 : ℝ) : EReal) := by
  induction k generalizing j with
  | zero => exact ⟨(neg3_lt s hs j).le, h1 j⟩
  | succ k ih =>
    rw [Function.iterate_succ_apply', fstep_apply]
    split
    · exact ⟨le_rfl, EReal.coe_le_coe_iff.mpr (by norm_num)⟩
    · exact ih j

/-- After `k` rounds' marks a position is among the first `k` exactly when its entry is below -2. -/
theorem mark_lt (S : Finset (Fin n)) (j : Fin n) : mark s S j < ((-2 : ℝ) : EReal) ↔ j ∈ S := by
  unfold mark
  split
  · rename_i h; exact ⟨fun _ => h, fun _ => EReal.coe_lt_coe_iff.mpr (by norm_num)⟩
  · rename_i h
    exact ⟨fun hl => absurd hl (not_lt.mpr (le_trans (EReal.coe_le_coe_iff.mpr (by norm_num)) (hs j))), fun hm => absurd hm h⟩

end

end Cert.Top

end
-- ==== Proof.KernelIdeal.Rows.lean ====
/- The rounds of the two attention kernels, read row by row at the ideal values: a block's round is one round of each of its
   rows. -/
module

public import proofs.«01_k».proof.Proof.KernelIdeal.Rounds
public import proofs.«01_k».proof.Proof.Top
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.KernelVsHost

@[expose] public section

set_option maxRecDepth 16384

noncomputable section

namespace Cert.KernelIdeal.Gen

open Idealize.ShloMosaic Idealize.ShloMosaic.TcCoe Idealize.ShloMosaic.ValueIdx
open scoped BigOperators

/-- Row `r` of a matrix. -/
abbrev rowAt {α : Type} {M N : ℕ} (w : (⟨2, ![M, N]⟩ : Shape).Idx → α) (r : Fin M) : Fin N → α := fun j => w (ix2 r j)

/-- A column spread along the rows reads the column. -/
theorem wide_apply {α : Type} {M N : ℕ} (x : (⟨2, ![M, 1]⟩ : Shape).Idx → α)
    (h : (⟨2, ![M, 1]⟩ : Shape).Broadcasts ⟨2, ![M, N]⟩) (r : Fin M) (j : Fin N) :
    broadcastTo ⟨2, ![M, N]⟩ x h (ix2 r j) = x (ix2 r 0) := by
  refine congrArg x (funext fun a => Fin.ext ?_)
  match a with
  | ⟨0, _⟩ =>
    by_cases hM : M = 1
    · subst hM; simp [ix2]
    · simp [ix2, hM]
  | ⟨1, _⟩ => simp [ix2]

/-- The reduced axis put back. -/
theorem lift_row {M N : ℕ} (h : (⟨2, ![M, N]⟩ : Shape).Reduces [1] ⟨1, ![M]⟩) (r : Fin M) (k : Fin N) :
    h.lift (ix1 r) k = ix2 r k := by
  funext a; apply Fin.ext
  match a with
  | ⟨0, _⟩ => rfl
  | ⟨1, _⟩ => rfl

/-- The word of minus infinity. -/
theorem ofBits_negInf : Ideal.ofBits .f32 0xFF800000#32 = ⊥ := by simp [Ideal.ofBits, Ideal.ieee]
/-- The word of −3. -/
theorem ofBits_neg3 : Ideal.ofBits .f32 0xC0400000#32 = ((-3 : ℝ) : EReal) := by
  simp [Ideal.ofBits, Ideal.ieee]
  rw [← EReal.coe_mul]; norm_num
/-- The word of −2. -/
theorem ofBits_neg2 : Ideal.ofBits .f32 0xC0000000#32 = ((-2 : ℝ) : EReal) := by
  simp [Ideal.ofBits, Ideal.ieee]
  rw [← EReal.coe_mul]; norm_num
/-- The word of 48. -/
theorem ofBits_48 : Ideal.ofBits .f32 0x42400000#32 = ((48 : ℝ) : EReal) := by
  simp [Ideal.ofBits, Ideal.ieee]
  rw [← EReal.coe_mul]; norm_num

/-- A matrix's sums of rows, as a column. -/
theorem rowSum_apply {M N : ℕ} (w : FVec Ideal ⟨2, ![M, N]⟩ .f32) (h : (⟨2, ![M, N]⟩ : Shape).Reduces [1] ⟨1, ![M]⟩) (hf) (ha)
    (hc : (⟨1, ![M]⟩ : Shape).ShapeCasts ⟨2, ![M, 1]⟩) (r : Fin M) (u : Fin 1) :
    shapeCast ⟨2, ![M, 1]⟩ (multiReduction (F := Ideal) .add [1] ⟨1, ![M]⟩ w 0x00000000#32 h hf ha) hc (ix2 r u) = ∑ j, rowAt w r j := by
  rw [shapeCast_a_a1_apply, Ideal.multiReduction_add_single]
  exact Finset.sum_congr rfl fun k _ => congrArg w (lift_row h r k)

/-- A matrix's maxima of rows, as a column. -/
theorem rowMax_apply {M N : ℕ} (w : FVec Ideal ⟨2, ![M, N]⟩ .f32) (h : (⟨2, ![M, N]⟩ : Shape).Reduces [1] ⟨1, ![M]⟩) (hf) (ha)
    (hc : (⟨1, ![M]⟩ : Shape).ShapeCasts ⟨2, ![M, 1]⟩) (r : Fin M) (u : Fin 1) :
    shapeCast ⟨2, ![M, 1]⟩ (multiReduction (F := Ideal) .maximumf [1] ⟨1, ![M]⟩ w 0xFF800000#32 h hf ha) hc (ix2 r u)
      = Top.rmax (rowAt w r) := by
  rw [shapeCast_a_a1_apply, Ideal.multiReduction_maximumf_single]
  have e : (w ∘ h.lift (ix1 r)) = rowAt w r := funext fun k => congrArg w (lift_row h r k)
  rw [e, Ideal.ofBits_def, ofBits_negInf]
  rfl

/-- The maxima of a block's rows. -/
theorem rowsMax_apply (w : FVec Ideal S128x16384 .f32) (r : Fin 128) (u : Fin 1) :
    rowsMax w (ix2 r u) = Top.rmax (rowAt w r) := rowMax_apply w _ _ _ _ r u

/-- The sums of a block's rows. -/
theorem rowsSum_apply (w : FVec Ideal S128x16384 .f32) (r : Fin 128) (u : Fin 1) :
    rowsSum w (ix2 r u) = ∑ j, rowAt w r j := rowSum_apply w _ _ _ _ r u

/-- A choice by a decided proposition. -/
theorem sel_ofBool {α : Type} (p : Prop) [Decidable p] (x y : α) :
    Scalar.select (BitVec.ofBool (decide p)) x y = if p then x else y := by
  by_cases h : p <;> simp [h, Scalar.select]

/-- A fast round of a block is one of each row. -/
theorem fround_row (w : FVec Ideal S128x16384 .f32) (r : Fin 128) : rowAt (fround w) r = Top.fstep (rowAt w r) := by
  funext j
  have h : wide (rowsMax w) (ix2 r j) = Top.rmax (rowAt w r) := (wide_apply _ _ r j).trans (rowsMax_apply w r 0)
  show Scalar.select (Ideal.cmp .oeq (w (ix2 r j)) (wide (rowsMax w) (ix2 r j))) (Ideal.ofBits .f32 0xC0400000#32) (w (ix2 r j)) = _
  rw [h, ofBits_neg3]
  exact sel_ofBool _ _ _

/-- Fast rounds of a block are fast rounds of each row. -/
theorem fround_iter_row (w : FVec Ideal S128x16384 .f32) (r : Fin 128) (k : ℕ) :
    rowAt (fround^[k] w) r = Top.fstep^[k] (rowAt w r) := by
  induction k with
  | zero => rfl
  | succ k ih => rw [Function.iterate_succ_apply', Function.iterate_succ_apply', fround_row, ih]

/-- A fold of the signed minimum is below every entry and is the start or an entry. -/
theorem minsi_fold {ι : Type} (b : BitVec 32) (x : ι → BitVec 32) (S : Finset ι) :
    (∀ k ∈ S, (S.fold IntOp.minsi b x).toInt ≤ (x k).toInt) ∧ (S.fold IntOp.minsi b x).toInt ≤ b.toInt
      ∧ (S.fold IntOp.minsi b x = b ∨ ∃ k ∈ S, S.fold IntOp.minsi b x = x k) := by
  induction S using Finset.cons_induction with
  | empty => simp
  | cons a S ha ih =>
    rw [Finset.fold_cons]
    obtain ⟨h1, h2, h3⟩ := ih
    generalize hm : S.fold IntOp.minsi b x = m at h1 h2 h3
    have hv : (IntOp.minsi (x a) m = x a ∧ (x a).toInt ≤ m.toInt) ∨ (IntOp.minsi (x a) m = m ∧ m.toInt ≤ (x a).toInt) := by
      unfold IntOp.minsi
      by_cases h : (x a).slt m
      · rw [if_pos h]; left; refine ⟨rfl, ?_⟩; rw [BitVec.slt_iff_toInt_lt] at h; omega
      · rw [if_neg h]; right; refine ⟨rfl, ?_⟩; rw [BitVec.slt_iff_toInt_lt] at h; omega
    rcases hv with ⟨hv, hl⟩ | ⟨hv, hl⟩
    · rw [hv]
      refine ⟨fun k hk => ?_, by omega, .inr ⟨a, Finset.mem_cons_self _ _, rfl⟩⟩
      rcases Finset.mem_cons.mp hk with rfl | hk
      · exact le_rfl
      · exact hl.trans (h1 k hk)
    · rw [hv]
      refine ⟨fun k hk => ?_, h2, h3.imp_right fun ⟨k, hk, e⟩ => ⟨k, Finset.mem_cons_of_mem hk, e⟩⟩
      rcases Finset.mem_cons.mp hk with rfl | hk
      · exact hl
      · exact h1 k hk

/-- A column's number read back from its word. -/
theorem toInt_col (j : Fin 16384) : (BitVec.ofNat 32 j.val).toInt = (j.val : ℤ) := by
  rw [BitVec.toInt_ofNat', Int.bmod_eq_of_le] <;> omega

/-- The least index among the selected positions is `j` exactly when `j` is the first one selected. -/
theorem first_word (p : Fin 16384 → Prop) [DecidablePred p] (hp : ∃ j, p j) (j : Fin 16384) :
    BitVec.ofNat 32 j.val = Finset.univ.fold IntOp.minsi 2147483647#32 (fun k => if p k then BitVec.ofNat 32 k.val else 16385#32)
      ↔ p j ∧ ∀ i, i < j → ¬ p i := by
  obtain ⟨h1, -, h3⟩ := minsi_fold 2147483647#32 (fun k => if p k then BitVec.ofNat 32 k.val else 16385#32) Finset.univ
  generalize Finset.univ.fold IntOp.minsi 2147483647#32 (fun k => if p k then BitVec.ofNat 32 k.val else 16385#32) = m at h1 h3
  have hle : ∀ k, p k → m.toInt ≤ (k.val : ℤ) := fun k hk => by
    have := h1 k (Finset.mem_univ _); rw [if_pos hk, toInt_col] at this; exact this
  obtain ⟨k0, hk0⟩ := hp
  have hm : ∃ k, p k ∧ m = BitVec.ofNat 32 k.val := by
    have hk := hle k0 hk0
    rcases h3 with h | ⟨k, -, h⟩
    · rw [h] at hk; have : (2147483647#32).toInt = 2147483647 := by decide
      omega
    · by_cases hpk : p k
      · exact ⟨k, hpk, by rw [h, if_pos hpk]⟩
      · rw [if_neg hpk] at h; rw [h] at hk; have : (16385#32).toInt = 16385 := by decide
        omega
  obtain ⟨k, hpk, rfl⟩ := hm
  constructor
  · intro h
    have hjk : j = k := Fin.ext (by have := congrArg BitVec.toInt h; rw [toInt_col, toInt_col] at this; omega)
    subst hjk
    refine ⟨hpk, fun i hi hpi => ?_⟩
    have := hle i hpi; rw [toInt_col] at this; omega
  · rintro ⟨hpj, hf⟩
    have := hle j hpj
    rw [toInt_col] at this
    have : k = j := by
      by_contra hne
      exact hf k (lt_of_le_of_ne (Fin.le_def.mpr (by omega)) hne) hpk
    rw [this]

/-- The least entry of each row, along the row. -/
theorem firsts_apply (x : IVec S128x16384 32) (r : Fin 128) (j : Fin 16384) :
    firsts x (ix2 r j) = Finset.univ.fold IntOp.minsi 2147483647#32 (rowAt x r) := by
  refine (wide_apply _ _ r j).trans ?_
  rw [shapeCast_a_a1_apply]
  refine (multiReductionI_eq_fold .minsi x _ _ rfl _).trans ?_
  refine (reduces_S128x16384_S128.fold_filter_drop_single IntOp.minsi _ x (ix1 r)).trans ?_
  exact congrArg (Finset.fold _ _ · _) (funext fun k => congrArg x (lift_row _ r k))

/-- The columns' numbers. -/
theorem cols_apply (r : Fin 128) (j : Fin 16384) : cols (ix2 r j) = BitVec.ofNat 32 j.val := by
  refine (congrFun (iotaInDim_eq_iota .tc S128x16384 32 1 _).symm _).trans ?_
  rw [iotaInDim_apply]

/-- An exact round of a block is one of each row. -/
theorem eround_row (w : FVec Ideal S128x16384 .f32) (r : Fin 128) : rowAt (eround w) r = Top.estep (rowAt w r) := by
  funext j
  have h : ∀ j, wide (rowsMax w) (ix2 r j) = Top.rmax (rowAt w r) := fun j => (wide_apply _ _ r j).trans (rowsMax_apply w r 0)
  have hx : rowAt (select (cmpf .oeq w (wide (rowsMax w))) cols (broadcast S128x16384 16385#32)) r
      = fun k => if rowAt w r k = Top.rmax (rowAt w r) then BitVec.ofNat 32 k.val else 16385#32 := by
    funext k
    show Scalar.select (Ideal.cmp .oeq (w (ix2 r k)) (wide (rowsMax w) (ix2 r k))) (cols (ix2 r k)) 16385#32 = _
    rw [h, cols_apply]
    exact sel_ofBool _ _ _
  have he : eround w (ix2 r j) = Scalar.select (BitVec.ofBool (cols (ix2 r j)
      == firsts (select (cmpf .oeq w (wide (rowsMax w))) cols (broadcast S128x16384 16385#32)) (ix2 r j)))
      (Ideal.ofBits .f32 0xC0400000#32) (w (ix2 r j)) := rfl
  have hd : (BitVec.ofNat 32 j.val == Finset.univ.fold IntOp.minsi 2147483647#32
      (fun k => if rowAt w r k = Top.rmax (rowAt w r) then BitVec.ofNat 32 k.val else 16385#32))
    = decide (rowAt w r j = Top.rmax (rowAt w r) ∧ ∀ i, i < j → ¬ rowAt w r i = Top.rmax (rowAt w r)) :=
      (beq_eq_decide _ _).trans (decide_eq_decide.mpr (first_word _ (Top.exists_rmax _ (by norm_num)) j))
  unfold rowAt at he hx hd ⊢
  rw [he, firsts_apply]
  unfold rowAt
  rw [hx, cols_apply, ofBits_neg3, hd, sel_ofBool, Top.estep_apply]
  congr

/-- Exact rounds of a block are exact rounds of each row. -/
theorem eround_iter_row (w : FVec Ideal S128x16384 .f32) (r : Fin 128) (k : ℕ) :
    rowAt (eround^[k] w) r = Top.estep^[k] (rowAt w r) := by
  induction k with
  | zero => rfl
  | succ k ih => rw [Function.iterate_succ_apply', Function.iterate_succ_apply', eround_row, ih]

end Cert.KernelIdeal.Gen
-- ==== Proof.Spec.lean ====
/- What both programs compute, written once over rows of extended reals: the unit vectors, the similarities, the kept
   connections, their softmax, the attended values and the output. -/
module

public import proofs.«01_k».proof.Proof.Top
public import Idealize.ShloMosaic.PureOps.Ideal
public import Idealize.ShloMosaic.PureOps.Ideal.Laws
public import Mathlib.Algebra.Order.BigOperators.Ring.Finset

@[expose] public section

noncomputable section

namespace Cert.Spec

open Idealize.ShloMosaic
open scoped BigOperators

/-- The least norm a vector is divided by. -/
def tiny : EReal := Ideal.ofBits .f32 0x2B8CBCCC#32

/-- The least norm is a positive real. -/
theorem tiny_pos : ∃ c : ℝ, 0 < c ∧ tiny = (c : EReal) := by
  refine ⟨(((9223372 : ℝ) * ((2:ℝ) ^ 63)⁻¹)), by positivity, ?_⟩
  unfold tiny
  simp [Ideal.ofBits, Ideal.ieee]

/-- A sum of reals, as extended reals. -/
theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

section Rows
variable {D A n : ℕ}

/-- A vector's norm, kept away from zero. -/
def nrm (v : Fin D → EReal) : EReal := max (Ideal.sqrt (∑ k, v k * v k)) tiny

/-- A vector over its norm. -/
def unit (v : Fin D → EReal) (k : Fin D) : EReal := Ideal.div (v k) (nrm v)

/-- The cosine similarities of a query with the keys. -/
def sim (x : Fin D → EReal) (y : Fin n → Fin D → EReal) (j : Fin n) : EReal := ∑ k, unit x k * unit (y j) k

/-- A row times a matrix. -/
def proj (x : Fin D → EReal) (w : Fin D → Fin A → EReal) (a : Fin A) : EReal := ∑ k, x k * w k a

/-- The scores of a projected query against the projected keys. -/
def score (q : Fin A → EReal) (ks : Fin n → Fin A → EReal) (c : EReal) (j : Fin n) : EReal := ∑ a, q a * c * ks j a

/-- The scores with the connections left out at minus infinity. -/
def masked (p : Fin n → Bool) (sc : Fin n → EReal) (j : Fin n) : EReal := if p j then sc j else ⊥

/-- The exponentials of a row less its maximum. -/
def pexp (w : Fin n → EReal) (j : Fin n) : EReal := Ideal.exp (w j - Top.rmax w)

/-- The softmax of a row over the connections kept, zero at the others. -/
def attn (p : Fin n → Bool) (sc : Fin n → EReal) (j : Fin n) : EReal :=
  if p j then Ideal.div (pexp (masked p sc) j) (∑ i, pexp (masked p sc) i) else 0

/-- The number of connections kept. -/
def count (p : Fin n → Bool) : ℕ := (Finset.univ.filter fun j => p j = true).card

/-- A square is not negative. -/
theorem mul_self_nonneg (x : EReal) : 0 ≤ x * x := by
  induction x with
  | bot => simp
  | top => simp
  | coe r => rw [← EReal.coe_mul]; exact EReal.coe_nonneg.mpr (_root_.mul_self_nonneg r)

/-- The square of an infinite value is infinite. -/
theorem mul_self_top {x : EReal} (h : x = ⊥ ∨ x = ⊤) : x * x = ⊤ := by
  rcases h with rfl | rfl <;> simp

/-- A vector over its norm is real and no longer than one. -/
theorem unit_real (v : Fin D → EReal) : ∃ u : Fin D → ℝ, (∀ k, unit v k = (u k : EReal)) ∧ ∑ k, u k * u k ≤ 1 := by
  obtain ⟨c, hc, hct⟩ := tiny_pos
  by_cases hv : ∀ k, ∃ r : ℝ, v k = (r : EReal)
  · choose r hr using hv
    have hs : ∑ k, v k * v k = ((∑ k, r k * r k : ℝ) : EReal) := by
      rw [coe_sum]; exact Finset.sum_congr rfl fun k _ => by rw [hr k, EReal.coe_mul]
    have hS : 0 ≤ ∑ k, r k * r k := Finset.sum_nonneg fun k _ => _root_.mul_self_nonneg _
    have hn : nrm v = ((max (Real.sqrt (∑ k, r k * r k)) c : ℝ) : EReal) := by
      unfold nrm
      rw [hs, hct, Ideal.sqrt_coe, if_neg (not_lt.mpr hS)]
      exact (EReal.coe_strictMono.monotone.map_max).symm
    generalize hN : max (Real.sqrt (∑ k, r k * r k)) c = N at hn
    have hNp : 0 < N := hN ▸ lt_max_of_lt_right hc
    have hNS : ∑ k, r k * r k ≤ N * N := by
      have h1 : Real.sqrt (∑ k, r k * r k) ≤ N := hN ▸ le_max_left _ _
      calc ∑ k, r k * r k = Real.sqrt (∑ k, r k * r k) * Real.sqrt (∑ k, r k * r k) := (Real.mul_self_sqrt hS).symm
        _ ≤ N * N := mul_self_le_mul_self (Real.sqrt_nonneg _) h1
    refine ⟨fun k => r k * N⁻¹, fun k => ?_, ?_⟩
    · unfold unit
      rw [hn, hr k, Ideal.div, if_neg (by simpa using hNp.ne'), ← EReal.coe_inv, ← EReal.coe_mul]
    · have : ∑ k, r k * N⁻¹ * (r k * N⁻¹) = (∑ k, r k * r k) * (N * N)⁻¹ := by
        rw [Finset.sum_mul]; exact Finset.sum_congr rfl fun k _ => by rw [mul_inv]; ring
      rw [this, ← div_eq_mul_inv]
      exact (div_le_one (by positivity)).mpr hNS
  · push Not at hv
    obtain ⟨k0, hk0⟩ := hv
    have h0 : v k0 = ⊥ ∨ v k0 = ⊤ := by
      induction hx : v k0 with
      | bot => exact .inl rfl
      | top => exact .inr rfl
      | coe r => exact absurd hx (hk0 r)
    have hs : ∑ k, v k * v k = ⊤ := by
      have := Finset.single_le_sum (f := fun k => v k * v k) (fun k _ => mul_self_nonneg (v k)) (Finset.mem_univ k0)
      simp only [mul_self_top h0] at this
      exact top_le_iff.mp this
    have hn : nrm v = ⊤ := by unfold nrm; rw [hs, Ideal.sqrt_top]; exact max_eq_left le_top
    refine ⟨fun _ => 0, fun k => ?_, by simp⟩
    unfold unit
    rw [hn, Ideal.div, if_neg (by simp), EReal.inv_top, mul_zero]; rfl

/-- The similarities are real, between −1 and 1. -/
theorem sim_real (x : Fin D → EReal) (y : Fin n → Fin D → EReal) (j : Fin n) :
    ∃ r : ℝ, sim x y j = (r : EReal) ∧ -1 ≤ r ∧ r ≤ 1 := by
  obtain ⟨u, hu, hu1⟩ := unit_real x
  obtain ⟨w, hw, hw1⟩ := unit_real (y j)
  refine ⟨∑ k, u k * w k, ?_, ?_⟩
  · unfold sim
    rw [coe_sum]; exact Finset.sum_congr rfl fun k _ => by rw [hu, hw, EReal.coe_mul]
  · have h2 : ∀ t : ℝ, (t = 1 ∨ t = -1) → t * ∑ k, u k * w k ≤ 1 := fun t ht => by
      have : t * ∑ k, u k * w k ≤ ∑ k, (u k * u k + w k * w k) / 2 := by
        rw [Finset.mul_sum]
        refine Finset.sum_le_sum fun k _ => ?_
        rcases ht with rfl | rfl
        · nlinarith [sq_nonneg (u k - w k)]
        · nlinarith [sq_nonneg (u k + w k)]
      refine this.trans ?_
      rw [← Finset.sum_div, Finset.sum_add_distrib]
      linarith
    have a := h2 1 (.inl rfl)
    have b := h2 (-1) (.inr rfl)
    constructor <;> linarith

/-- A nonnegative real factor goes through a sum of extended reals. -/
theorem sum_mul_coe {ι : Type} (S : Finset ι) (f : ι → EReal) (c : ℝ) (hc : 0 ≤ c) :
    (∑ i ∈ S, f i) * (c : EReal) = ∑ i ∈ S, f i * (c : EReal) := by
  induction S using Finset.cons_induction with
  | empty => simp
  | cons a S ha ih =>
    rw [Finset.sum_cons, Finset.sum_cons, ← ih]
    exact EReal.right_distrib_of_nonneg_of_ne_top (EReal.coe_nonneg.mpr hc) (EReal.coe_ne_top c) _ _

/-- The scale may be taken on the query or on the score. -/
theorem score_scale (q : Fin A → EReal) (ks : Fin n → Fin A → EReal) (c : ℝ) (hc : 0 ≤ c) (j : Fin n) :
    score q ks c j = (∑ a, q a * ks j a) * (c : EReal) := by
  rw [sum_mul_coe _ _ c hc]
  exact Finset.sum_congr rfl fun a _ => by rw [mul_assoc, mul_comm (c : EReal), ← mul_assoc]

/-- Everything kept lies on `m` places: the sums over the row are sums over them. -/
theorem sum_slots {m : ℕ} (slot : Fin m → Fin n) (hinj : Function.Injective slot) (f : Fin n → EReal)
    (hf : ∀ j, (∀ k, slot k ≠ j) → f j = 0) : ∑ j, f j = ∑ k, f (slot k) := by
  rw [← Finset.sum_image (s := Finset.univ) (g := slot) (f := f) (fun a _ b _ h => hinj h)]
  symm
  refine Finset.sum_subset (Finset.subset_univ _) fun j _ hj => hf j fun k hk => hj ?_
  rw [← hk]; exact Finset.mem_image_of_mem _ (Finset.mem_univ k)

/-- A row's maximum is that over the places off which the row is minus infinity. -/
theorem rmax_slots {m : ℕ} (slot : Fin m → Fin n) (w : Fin n → EReal) (hw : ∀ j, (∀ k, slot k ≠ j) → w j = ⊥) (hn : 0 < n) (hm : 0 < m) :
    Top.rmax w = Top.rmax fun k => w (slot k) := by
  apply le_antisymm
  · obtain ⟨j, hj⟩ := Top.exists_rmax w hn
    rw [← hj]
    by_cases h : ∀ k, slot k ≠ j
    · rw [hw j h]; exact bot_le
    · push Not at h
      obtain ⟨k, rfl⟩ := h
      exact Top.le_rmax (fun k => w (slot k)) k
  · obtain ⟨k, hk⟩ := Top.exists_rmax (fun k => w (slot k)) hm
    rw [← hk]
    exact Top.le_rmax w (slot k)

/-- The exponential of minus infinity less anything is zero. -/
theorem exp_bot_sub (M : EReal) : Ideal.exp (⊥ - M) = 0 := by rw [EReal.bot_sub]; rfl

/-- The softmax over the row, restricted to the places that can be kept, is the softmax over those places. -/
theorem attn_slots {m : ℕ} (slot : Fin m → Fin n) (hinj : Function.Injective slot) (p : Fin n → Bool) (sc : Fin n → EReal)
    (hp : ∀ j, (∀ k, slot k ≠ j) → p j = false) (hn : 0 < n) (hm : 0 < m) (k : Fin m) :
    attn p sc (slot k) = attn (fun k => p (slot k)) (fun k => sc (slot k)) k := by
  have hmk : (fun k => masked p sc (slot k)) = masked (fun k => p (slot k)) (fun k => sc (slot k)) := rfl
  have hM : Top.rmax (masked p sc) = Top.rmax (masked (fun k => p (slot k)) (fun k => sc (slot k))) :=
    rmax_slots slot _ (fun j hj => by unfold masked; rw [hp j hj]; rfl) hn hm
  have he : ∀ k, pexp (masked p sc) (slot k) = pexp (masked (fun k => p (slot k)) (fun k => sc (slot k))) k := fun k => by
    unfold pexp; rw [hM]; rfl
  have hs : ∑ i, pexp (masked p sc) i = ∑ i, pexp (masked (fun k => p (slot k)) (fun k => sc (slot k))) i := by
    rw [sum_slots slot hinj (pexp (masked p sc)) fun j hj => by
      unfold pexp masked; rw [hp j hj]; exact exp_bot_sub _]
    exact Finset.sum_congr rfl fun k _ => he k
  unfold attn
  rw [he, hs]

/-- The attended values over the row are those over the places that can be kept. -/
theorem attended_slots {m : ℕ} (slot : Fin m → Fin n) (hinj : Function.Injective slot) (p : Fin n → Bool) (sc v : Fin n → EReal)
    (hp : ∀ j, (∀ k, slot k ≠ j) → p j = false) (hn : 0 < n) (hm : 0 < m) :
    ∑ j, attn p sc j * v j = ∑ k, attn (fun k => p (slot k)) (fun k => sc (slot k)) k * v (slot k) := by
  rw [sum_slots slot hinj (fun j => attn p sc j * v j) fun j hj => by unfold attn; rw [hp j hj]; simp]
  exact Finset.sum_congr rfl fun k _ => by rw [attn_slots slot hinj p sc hp hn hm k]

/-- The connections kept in the row are those kept on the places that can be. -/
theorem count_slots {m : ℕ} (slot : Fin m → Fin n) (hinj : Function.Injective slot) (p : Fin n → Bool)
    (hp : ∀ j, (∀ k, slot k ≠ j) → p j = false) : count p = count fun k => p (slot k) := by
  unfold count
  rw [← Finset.card_image_of_injective _ hinj]
  congr 1
  ext j
  simp only [Finset.mem_filter, Finset.mem_univ, true_and, Finset.mem_image]
  constructor
  · intro hj
    by_contra h
    push Not at h
    rw [hp j fun k hk => (h k (hk ▸ hj)) hk] at hj
    exact absurd hj (by decide)
  · rintro ⟨k, hk, rfl⟩; exact hk

end Rows

/-- Row `x`'s products with given rows, from its unit row. -/
def near {D n : ℕ} (x : Fin D → EReal) (kn : Fin n → Fin D → EReal) (j : Fin n) : EReal := ∑ k, unit x k * kn j k

/-- The output row of `x` from the connections `p`, the keys `ks`, the values `vs` and the weights. -/
def attend {D A n : ℕ} (p : Fin n → Bool) (x : Fin D → EReal) (wq : Fin D → Fin A → EReal) (ks vs : Fin n → Fin A → EReal) {E : ℕ}
    (wo : Fin A → Fin E → EReal) : Fin E → EReal :=
  proj (fun a => ∑ j, attn p (score (proj x wq) ks (((Real.sqrt 128)⁻¹ : ℝ) : EReal)) j * vs j a) wo

/-- The connections kept among those selected: of positive similarity, and before the step's first position. -/
def keepBy {n : ℕ} (b : Fin n → Bool) (s : Fin n → EReal) (cs : BitVec 32) (j : Fin n) : Bool :=
  b j && decide (0 < s j) && (BitVec.ofNat 32 j.val).slt (cs * 1024#32)

/-- The connections kept: among the sixteen most similar, similar at all, and of an earlier step. -/
def keep {n : ℕ} (s : Fin n → EReal) (cs : BitVec 32) (j : Fin n) : Bool :=
  decide (j ∈ Top.top s 16) && decide (0 < s j) && (BitVec.ofNat 32 j.val).slt (cs * 1024#32)

/-- The `k`-th of the sixteen most similar. -/
def slot {n : ℕ} (hn : 16 ≤ n) (s : Fin n → EReal) (k : Fin 16) : Fin n := Top.src s (k.castLE hn)

/-- The sixteen places differ. -/
theorem slot_inj {n : ℕ} (hn : 16 ≤ n) (s : Fin n → EReal) : Function.Injective (slot hn s) :=
  (Top.src_inj s).comp (Fin.castLE_injective hn)

/-- No place but the sixteen is kept. -/
theorem keep_slots {n : ℕ} (hn : 16 ≤ n) (s : Fin n → EReal) (cs : BitVec 32) (j : Fin n) (h : ∀ k, slot hn s k ≠ j) :
    keep s cs j = false := by
  have : j ∉ Top.top s 16 := fun hj => by
    obtain ⟨i, rfl⟩ := Top.src_surj s j
    exact h ⟨i.val, (Top.src_mem_top s i 16).mp hj⟩ rfl
  simp [keep, this]

/-- One of the sixteen places is kept by its similarity and its position. -/
theorem keep_slot {n : ℕ} (hn : 16 ≤ n) (s : Fin n → EReal) (cs : BitVec 32) (k : Fin 16) :
    keep s cs (slot hn s k) = (decide (0 < s (slot hn s k)) && (BitVec.ofNat 32 (slot hn s k).val).slt (cs * 1024#32)) := by
  have : slot hn s k ∈ Top.top s 16 := (Top.src_mem_top s _ 16).mpr k.isLt
  simp [keep, this]

/-- The kept connections as those among the sixteen places. -/
theorem keep_eq {n : ℕ} (s : Fin n → EReal) (cs : BitVec 32) : keep s cs = keepBy (fun j => decide (j ∈ Top.top s 16)) s cs := rfl

/-- The output's rows: every query row attends over the past rows `T`. -/
def outs {N n D A E : ℕ} (Q : Fin N → Fin D → EReal) (T : Fin n → Fin D → EReal) (wq wk wv : Fin D → Fin A → EReal)
    (wo : Fin A → Fin E → EReal) (cs : BitVec 32) (R : Fin N) : Fin E → EReal :=
  attend (keep (sim (Q R) T) cs) (Q R) wq (fun j => proj (T j) wk) (fun j => proj (T j) wv) wo

/-- How many connections the queries keep in all. -/
def total {N n D : ℕ} (Q : Fin N → Fin D → EReal) (T : Fin n → Fin D → EReal) (cs : BitVec 32) : ℕ :=
  ∑ R, count (keep (sim (Q R) T) cs)

/-- A sum of words that stand for natural numbers. -/
theorem reduce_words {s t u : Shape} {axes : List (Fin s.rank)} [Subsingleton t.Idx] (x : s.Idx → BitVec 32) (f : s.Idx → ℕ)
    (hx : ∀ i, x i = BitVec.ofNat 32 (f i)) (init : u.Idx → BitVec 32) (h : s.ReducesTo axes t) (hu : 0 < u.numel)
    (hi : init (Shape.Idx.first hu) = 0#32) (j : t.Idx) : Host.reduce IntOp.addi x init h hu j = BitVec.ofNat 32 (∑ i, f i) := by
  rw [Host.reduce_eq_fold, hi, Finset.filter_true_of_mem fun i _ => Subsingleton.elim _ _]
  generalize (Finset.univ : Finset s.Idx) = S
  induction S using Finset.cons_induction with
  | empty => rfl
  | cons a S ha ih => rw [Finset.fold_cons, ih, Finset.sum_cons, hx, BitVec.ofNat_add]; rfl

end Cert.Spec
-- ==== Proof.KernelIdeal.Tail.lean ====
/- The attention kernels' stored values read at an entry, at the ideal values: the similarities, the kept connections, the
   attended output, the count and the fast selection's check. -/
module

public import proofs.«01_k».proof.Proof.KernelIdeal.Rows
public import proofs.«01_k».proof.Proof.Spec

@[expose] public section

set_option maxRecDepth 16384

noncomputable section

namespace Cert.KernelIdeal.Gen

open Idealize.ShloMosaic Idealize.ShloMosaic.TcCoe Idealize.ShloMosaic.ValueIdx
open scoped BigOperators

/-- A matrix's rows. -/
abbrev rowsOf {α : Type} {M N : ℕ} (w : (⟨2, ![M, N]⟩ : Shape).Idx → α) : Fin M → Fin N → α := rowAt w

/-- A matrix reshaped to its own shape. -/
theorem same_apply {α : Type} {s : Shape} (x : s.Idx → α) (h : s.ShapeCasts s) (i : s.Idx) : shapeCast s x h i = x i :=
  shapeCast_apply x h _ _ rfl

/-- A reshape to the same shape changes nothing. -/
theorem same_eq {α : Type} {s : Shape} (x : s.Idx → α) (h : s.ShapeCasts s) : shapeCast s x h = x := funext fun i => same_apply x h i

/-- A product from a zero accumulator. -/
theorem dot_apply {M K N : ℕ} (l : FVec Ideal ⟨2, ![M, K]⟩ .f32) (r : FVec Ideal ⟨2, ![K, N]⟩ .f32) (i : Fin M) (j : Fin N) :
    FloatOps.matmul (F := Ideal) (DotDims.plain M K N) none l r (constant ⟨2, ![M, N]⟩ .f32 0x00000000#32) (ix2 i j)
      = Spec.proj (rowAt l i) (rowsOf r) j := by
  rw [Ideal.matmul_plain_apply, constant_apply, Ideal.ofBits_zero_f32, zero_add]; rfl

/-- A product with a transposed factor, from a zero accumulator. -/
theorem dotT_apply {M K N : ℕ} (l : FVec Ideal ⟨2, ![M, K]⟩ .f32) (r : FVec Ideal ⟨2, ![N, K]⟩ .f32) (i : Fin M) (j : Fin N) :
    FloatOps.matmul (F := Ideal) (DotDims.transposedRhs M K N) none l r (constant ⟨2, ![M, N]⟩ .f32 0x00000000#32) (ix2 i j)
      = ∑ k, rowAt l i k * rowAt r j k := by
  rw [Ideal.matmul_transposedRhs_apply, constant_apply, Ideal.ofBits_zero_f32, zero_add]

/-- A block of unit rows at an element. -/
theorem unit_apply {M N : ℕ} (x : FVec Ideal ⟨2, ![M, N]⟩ .f32) (h : (⟨2, ![M, N]⟩ : Shape).Reduces [1] ⟨1, ![M]⟩) (hf) (ha)
    (hc : (⟨1, ![M]⟩ : Shape).ShapeCasts ⟨2, ![M, 1]⟩) (hb : (⟨2, ![M, 1]⟩ : Shape).Broadcasts ⟨2, ![M, N]⟩) (r : Fin M) (k : Fin N) :
    divf x (broadcastTo ⟨2, ![M, N]⟩ (maximumf (sqrt (shapeCast ⟨2, ![M, 1]⟩
      (multiReduction (F := Ideal) .add [1] ⟨1, ![M]⟩ (mulf x x) 0x00000000#32 h hf ha) hc))
      (broadcast ⟨2, ![M, 1]⟩ (Scalar.ofBits (F := Ideal) .f32 0x2B8CBCCC#32))) hb) (ix2 r k) = Spec.unit (rowAt x r) k := by
  rw [divf_apply, wide_apply, maximumf_apply]
  have hs := rowSum_apply (mulf x x) h hf ha hc r 0
  show Ideal.div (x (ix2 r k)) (max (Ideal.sqrt (shapeCast ⟨2, ![M, 1]⟩
      (multiReduction (F := Ideal) .add [1] ⟨1, ![M]⟩ (mulf x x) 0x00000000#32 h hf ha) hc (ix2 r 0))) (Ideal.ofBits .f32 0x2B8CBCCC#32)) = _
  rw [hs]; rfl

/-- The similarity block. -/
theorem sim_apply (x : Vec Ideal S128x256 .f32) (kn : Vec Ideal S16384x256 .f32) (r : Fin 128) (j : Fin 16384) :
    k1_pay4 (F := Ideal) x kn (ix2 r j) = ∑ k, Spec.unit (rowAt x r) k * rowAt kn j k := by
  unfold k1_pay4 k1_pay3
  dsimp only
  rw [same_eq, same_eq]
  refine (dotT_apply _ _ r j).trans (Finset.sum_congr rfl fun k _ => ?_)
  exact congrArg (· * rowAt kn j k) (unit_apply x _ _ _ _ _ r k)

/-- The conjunction of two truth values. -/
theorem and_ofBool (a b : Bool) : IntOp.andi (BitVec.ofBool a) (BitVec.ofBool b) = BitVec.ofBool (a && b) := by
  cases a <;> cases b <;> rfl

/-- A kept position: selected, of positive similarity, and past. -/
theorem keep_apply (sim : FVec Ideal S128x16384 .f32) (cs : BitVec 32) (sel : IVec S128x16384 1) (r : Fin 128) (j : Fin 16384) (b : Bool)
    (hsel : sel (ix2 r j) = BitVec.ofBool b) :
    k1_pay46 sim cs sel (ix2 r j) = BitVec.ofBool (b && decide (0 < sim (ix2 r j)) && (BitVec.ofNat 32 j.val).slt (cs * 1024#32)) := by
  have hi : iota .tc S8x16384 32 [1] iota_S8x16384_d1_w32 (ix2 (0 : Fin 8) j) = BitVec.ofNat 32 j.val := by
    refine (congrFun (iotaInDim_eq_iota .tc S8x16384 32 1 _).symm _).trans ?_
    rw [iotaInDim_apply]
  have hb : broadcastTo S128x16384 (extractStridedSlice S1x16384 ![0, 0] (cmpi .slt (iota .tc S8x16384 32 [1] iota_S8x16384_d1_w32)
      (broadcast S8x16384 (Scalar.muli cs 1024#32))) slices_S8x16384_o0_0_S1x16384) broadcasts_S1x16384_S128x16384 (ix2 r j)
      = BitVec.ofBool ((BitVec.ofNat 32 j.val).slt (cs * 1024#32)) := by
    rw [broadcastTo_1b_ab_apply, slice2_axis0_apply _ _ _ _ _ (0 : Fin 8) rfl]
    show BitVec.ofBool ((iota .tc S8x16384 32 [1] iota_S8x16384_d1_w32 _).slt (cs * 1024#32)) = _
    exact congrArg (fun z => BitVec.ofBool (BitVec.slt z (cs * 1024#32))) hi
  have hs : cmpf (F := Ideal) .ogt sim (broadcast S128x16384 (Scalar.ofBits .f32 0x00000000#32)) (ix2 r j)
      = BitVec.ofBool (decide (0 < sim (ix2 r j))) := by
    show BitVec.ofBool (decide (Ideal.ofBits .f32 0x00000000#32 < sim (ix2 r j))) = _
    rw [Ideal.ofBits_zero_f32]
  rw [← and_ofBool, ← and_ofBool, ← hb, ← hs, ← hsel]
  rfl

/-- The attention weight at an element. -/
theorem attn_read {s : Shape} (kp : IVec s 1) (E D : FVec Ideal s .f32) (i : s.Idx) :
    select kp (divf E D) (broadcast s (Scalar.ofBits (F := Ideal) .f32 0x00000000#32)) i
      = Scalar.select (kp i) (Ideal.div (E i) (D i)) (Ideal.ofBits .f32 0x00000000#32) := rfl

/-- The selected places at an element. -/
theorem selOf_apply (w : FVec Ideal S128x16384 .f32) (r : Fin 128) (j : Fin 16384) :
    selOf w (ix2 r j) = BitVec.ofBool (decide (rowAt w r j < Ideal.ofBits .f32 0xC0000000#32)) := rfl

/-- The self-check of a row. -/
theorem check_apply (a b : FVec Ideal S128x1 .f32) (c : Ideal .f32) (i : S128x1.Idx) :
    k1_pay45 a b c i = Scalar.select (BitVec.ofBool (decide (Ideal.ofBits .f32 0x3F800000#32 < max (a i - (b i - c)) (-(a i - (b i - c))))))
      1#32 0#32 := rfl

/-- A small natural number truncates to itself. -/
theorem fptosi_nat (c : ℕ) (h : c ≤ 16384) : Ideal.fptosi 32 ((c : ℝ) : EReal) = BitVec.ofNat 32 c := by
  unfold Ideal.fptosi
  have : Ideal.toIntClamped (-(2 ^ (32 - 1) : Nat)) ((2 ^ (32 - 1) : Nat) - 1) ((c : ℝ) : EReal) = (c : ℤ) := by
    show max _ (min _ (if (0 : ℝ) ≤ (c : ℝ) then ⌊(c : ℝ)⌋ else _)) = _
    rw [if_pos (Nat.cast_nonneg c), Int.floor_natCast]
    norm_num
    omega
  rw [this]
  exact BitVec.ofInt_natCast _ _

/-- The output of the kept connections. -/
theorem out_apply (q : FVec Ideal S128x256 .f32) (sim : FVec Ideal S128x16384 .f32) (cs : BitVec 32) (sel : IVec S128x16384 1)
    (wq : Vec Ideal S256x128 .f32) (k v : Vec Ideal S16384x128 .f32) (wo : Vec Ideal S128x256 .f32) (r : Fin 128) (p : Fin 16384 → Bool)
    (hp : ∀ j, k1_pay46 sim cs sel (ix2 r j) = BitVec.ofBool (p j)) (e : Fin 256) :
    outOf (F := Ideal) q sim cs sel wq k v wo (ix2 r e)
      = Spec.proj (fun a => ∑ j, Spec.attn p (Spec.score (Spec.proj (rowAt q r) (rowsOf wq)) (rowsOf k) (((Real.sqrt 128)⁻¹ : ℝ) : EReal)) j
          * v (ix2 j a)) (rowsOf wo) e := by
  have hA : ∀ j, k1_pay47 (F := Ideal) q sim cs sel wq k (ix2 r j)
      = Spec.attn p (Spec.score (Spec.proj (rowAt q r) (rowsOf wq)) (rowsOf k) (((Real.sqrt 128)⁻¹ : ℝ) : EReal)) j := by
    intro j
    unfold k1_pay47
    dsimp only
    rw [same_eq]
    generalize hkp : k1_pay46 sim cs sel = kp at hp
    generalize hS : matmul (F := Ideal) dot_S128x128_S16384x128_S128x16384_1_1_0_0_n_n none _ k _ = S
    have hSr : ∀ j, S (ix2 r j) = Spec.score (Spec.proj (rowAt q r) (rowsOf wq)) (rowsOf k) (((Real.sqrt 128)⁻¹ : ℝ) : EReal) j := by
      intro j
      rw [← hS]
      refine (dotT_apply _ _ r j).trans (Finset.sum_congr rfl fun a _ => ?_)
      refine congrArg (· * rowAt k j a) ?_
      show FloatOps.matmul (F := Ideal) (DotDims.plain 128 256 128) none q wq (constant S128x128 .f32 0x00000000#32) (ix2 r a) * _ = _
      rw [dot_apply]; rfl
    generalize hW : select kp S (broadcast S128x16384 (Named.named (F := Ideal) κ "mask" (φ := .f32) 0xCE6E6B28#32)) = W
    have hWr : rowAt W r = Spec.masked p (Spec.score (Spec.proj (rowAt q r) (rowsOf wq)) (rowsOf k) (((Real.sqrt 128)⁻¹ : ℝ) : EReal)) := by
      funext j
      rw [← hW]
      show Scalar.select (kp (ix2 r j)) (S (ix2 r j)) (⊥ : EReal) = _
      rw [hp, hSr]
      unfold Spec.masked
      cases p j <;> rfl
    generalize hE : exp (subf W _) = E
    have hEr : rowAt E r = Spec.pexp (Spec.masked p (Spec.score (Spec.proj (rowAt q r) (rowsOf wq)) (rowsOf k) (((Real.sqrt 128)⁻¹ : ℝ) : EReal))) := by
      funext j
      rw [← hE]
      show Ideal.exp (W (ix2 r j) - wide (rowsMax W) (ix2 r j)) = _
      rw [show wide (rowsMax W) (ix2 r j) = Top.rmax (rowAt W r) from (wide_apply _ _ r j).trans (rowsMax_apply W r 0), hWr]
      unfold Spec.pexp
      rw [← hWr]
    refine (attn_read kp E (wide (rowsSum E)) (ix2 r j)).trans ?_
    rw [show wide (rowsSum E) (ix2 r j) = ∑ i, rowAt E r i from (wide_apply _ _ r j).trans (rowsSum_apply E r 0),
      show E (ix2 r j) = rowAt E r j from rfl, hEr, hp, Ideal.ofBits_zero_f32]
    unfold Spec.attn
    cases p j <;> rfl
  unfold outOf k1_pay1
  rw [same_eq]
  refine (dot_apply _ _ r e).trans ?_
  refine congrArg (fun f => Spec.proj f (rowsOf wo) e) (funext fun a => ?_)
  refine (dot_apply _ _ r a).trans (Finset.sum_congr rfl fun j _ => ?_)
  rw [← hA j]

/-- The count of the kept connections. -/
theorem cnt_apply (kp : IVec S128x16384 1) (r : Fin 128) (u : Fin 1) (p : Fin 16384 → Bool) (hp : ∀ j, kp (ix2 r j) = BitVec.ofBool (p j)) :
    k1_pay2 (F := Ideal) kp (ix2 r u) = BitVec.ofNat 32 (Spec.count p) := by
  have hs : rowsSum (F := Ideal) (select kp (broadcast S128x16384 (Scalar.ofBits .f32 0x3F800000#32))
      (broadcast S128x16384 (Scalar.ofBits .f32 0x00000000#32))) (ix2 r u) = ((Spec.count p : ℝ) : EReal) := by
    rw [rowsSum_apply]
    have he : ∀ j, rowAt (select kp (broadcast S128x16384 (Scalar.ofBits (F := Ideal) .f32 0x3F800000#32))
        (broadcast S128x16384 (Scalar.ofBits (F := Ideal) .f32 0x00000000#32))) r j = ((if p j = true then 1 else 0 : ℝ) : EReal) := fun j => by
      show Scalar.select (kp (ix2 r j)) (Ideal.ofBits .f32 0x3F800000#32) (Ideal.ofBits .f32 0x00000000#32) = _
      rw [hp, Ideal.ofBits_zero_f32, Ideal.ofBits_one_f32]
      cases p j <;> simp [Scalar.select]
    rw [Finset.sum_congr rfl fun j _ => he j, ← Spec.coe_sum, Finset.sum_boole]
    rfl
  have hle : Spec.count p ≤ 16384 := (Finset.card_le_univ _).trans (by simp)
  show Ideal.fptosi 32 (rowsSum (F := Ideal) _ (ix2 r u)) = _
  rw [hs]
  exact fptosi_nat _ hle

/-- The exact rounds select the sixteen greatest. -/
theorem exact_sel (w : FVec Ideal S128x16384 .f32) (r : Fin 128) (hs : ∀ j, ((-1 : ℝ) : EReal) ≤ rowAt w r j) (j : Fin 16384) :
    selOf (eround^[16] w) (ix2 r j) = BitVec.ofBool (decide (j ∈ Top.top (rowAt w r) 16)) := by
  rw [selOf_apply, eround_iter_row, Top.estep_iter _ hs (by norm_num), ofBits_neg2]
  exact congrArg BitVec.ofBool (decide_eq_decide.mpr (Top.mark_lt _ hs _ j))

/-- The positions a row's fast rounds marked. -/
def fastSel (s : Fin 16384 → EReal) (j : Fin 16384) : Bool := decide (Top.fstep^[16] s j < Ideal.ofBits .f32 0xC0000000#32)

/-- The sum of the first `k` fast rounds' maxima of a row. -/
def fastMax (s : Fin 16384 → EReal) : ℕ → EReal
  | 0 => Ideal.ofBits .f32 0x00000000#32
  | k + 1 => fastMax s k + Top.rmax (Top.fstep^[k] s)

/-- What a row's fast rounds took beyond one maximum and one mark each. -/
def fastGap (s : Fin 16384 → EReal) : EReal :=
  ∑ j, Top.fstep^[16] s j - ((∑ j, s j - fastMax s 16) - Ideal.ofBits .f32 0x42400000#32)

/-- A row's check: 1 where its fast rounds took more than one mark each. -/
def fastBad (s : Fin 16384 → EReal) : BitVec 32 :=
  Scalar.select (BitVec.ofBool (decide (Ideal.ofBits .f32 0x3F800000#32 < max (fastGap s) (-fastGap s)))) 1#32 0#32

/-- The fast block's selection at an element. -/
theorem fast_sel (w : FVec Ideal S128x16384 .f32) (r : Fin 128) (j : Fin 16384) :
    selOf (fround^[16] w) (ix2 r j) = BitVec.ofBool (fastSel (rowAt w r) j) := by
  rw [selOf_apply, fround_iter_row]; rfl

/-- The running sum of the maxima, at a row. -/
theorem maxSum_apply (w : FVec Ideal S128x16384 .f32) (r : Fin 128) (K : ℕ) : maxSum w K (ix2 r 0) = fastMax (rowAt w r) K := by
  induction K with
  | zero => rfl
  | succ K ih =>
    show maxSum w K (ix2 r 0) + rowsMax (fround^[K] w) (ix2 r 0) = _
    rw [ih, rowsMax_apply, fround_iter_row]; rfl

/-- The fast block's flag at a row. -/
theorem bad_apply (w : FVec Ideal S128x16384 .f32) (r : Fin 128) : badOf w (ix2 r 0) = fastBad (rowAt w r) := by
  unfold badOf fastBad fastGap
  rw [check_apply, subf_apply, rowsSum_apply, rowsSum_apply, fround_iter_row, maxSum_apply]
  rfl

/-- The sum of the maxima is real when each is. -/
theorem fastMax_coe (s : Fin 16384 → EReal) (m : ℕ → ℝ) (hm : ∀ k, Top.rmax (Top.fstep^[k] s) = (m k : EReal)) (K : ℕ) :
    fastMax s K = ((∑ k ∈ Finset.range K, m k : ℝ) : EReal) := by
  induction K with
  | zero => unfold fastMax; rw [Ideal.ofBits_zero_f32]; simp
  | succ K ih => unfold fastMax; rw [ih, hm, ← EReal.coe_add, Finset.sum_range_succ]

/-- Where a row's check passes its fast rounds select the sixteen greatest. -/
theorem fastSel_eq (s : Fin 16384 → EReal) (hs : ∀ j, ∃ t : ℝ, s j = (t : EReal) ∧ -1 ≤ t ∧ t ≤ 1) (hb : fastBad s = 0#32) (j : Fin 16384) :
    fastSel s j = decide (j ∈ Top.top s 16) := by
  have hl : ∀ j, ((-1 : ℝ) : EReal) ≤ s j := fun j => by
    obtain ⟨t, ht, h1, -⟩ := hs j; rw [ht]; exact EReal.coe_le_coe_iff.mpr h1
  have hu : ∀ j, s j ≤ ((1 : ℝ) : EReal) := fun j => by
    obtain ⟨t, ht, -, h1⟩ := hs j; rw [ht]; exact EReal.coe_le_coe_iff.mpr h1
  have hreal : ∀ k j, ∃ t : ℝ, Top.fstep^[k] s j = (t : EReal) ∧ -3 ≤ t := fun k j => by
    obtain ⟨h1, h2⟩ := Top.fstep_bounds _ hl hu k j
    generalize Top.fstep^[k] s j = z at h1 h2
    induction z with
    | bot => exact absurd h1 (not_le.mpr (EReal.bot_lt_coe _))
    | top => exact absurd h2 (not_le.mpr (EReal.coe_lt_top _))
    | coe t => exact ⟨t, rfl, EReal.coe_le_coe_iff.mp h1⟩
  choose f hf hf3 using hreal
  have hmx : ∀ k, ∃ t : ℝ, Top.rmax (Top.fstep^[k] s) = (t : EReal) ∧ -3 ≤ t := fun k => by
    obtain ⟨i, hi⟩ := Top.exists_rmax (Top.fstep^[k] s) (by norm_num)
    exact ⟨f k i, by rw [← hi, hf], hf3 k i⟩
  choose m hm hm3 using hmx
  have hsum : ∀ k, ∑ j, Top.fstep^[k] s j = ((∑ j, f k j : ℝ) : EReal) := fun k => by
    rw [Spec.coe_sum]; exact Finset.sum_congr rfl fun j _ => hf k j
  have hbal : -1 ≤ ∑ j, f 16 j - ((∑ j, f 0 j - ∑ k ∈ Finset.range 16, m k) - 3 * (16 : ℕ)) := by
    have h0 : ∑ j, s j = ((∑ j, f 0 j : ℝ) : EReal) := hsum 0
    unfold fastBad fastGap at hb
    rw [sel_ofBool, hsum, h0, fastMax_coe s m hm, ofBits_48, Ideal.ofBits_one_f32, ← EReal.coe_sub, ← EReal.coe_sub, ← EReal.coe_sub] at hb
    by_contra hlt
    rw [if_pos] at hb
    · exact absurd hb (by decide)
    · refine lt_max_of_lt_right ?_
      rw [← EReal.coe_neg, ← EReal.coe_one, EReal.coe_lt_coe_iff]
      push_cast at hlt
      linarith
  unfold fastSel
  rw [Top.fstep_iter _ hl f m hf hm hm3 (by norm_num) hbal, ofBits_neg2]
  exact decide_eq_decide.mpr (Top.mark_lt _ hl _ j)

/-- The similarities of a block's row. -/
theorem sim_row (x : Vec Ideal S128x256 .f32) (kn : Vec Ideal S16384x256 .f32) (r : Fin 128) :
    rowAt (k1_pay4 (F := Ideal) x kn) r = Spec.near (rowAt x r) (rowsOf kn) := funext fun j => sim_apply x kn r j

/-- A block's row of kept positions. -/
theorem keep_row (x : Vec Ideal S128x256 .f32) (kn : Vec Ideal S16384x256 .f32) (cs : BitVec 32) (sel : IVec S128x16384 1) (r : Fin 128)
    (b : Fin 16384 → Bool) (hsel : ∀ j, sel (ix2 r j) = BitVec.ofBool (b j)) (j : Fin 16384) :
    k1_pay46 (k1_pay4 (F := Ideal) x kn) cs sel (ix2 r j) = BitVec.ofBool (Spec.keepBy b (Spec.near (rowAt x r) (rowsOf kn)) cs j) := by
  rw [keep_apply _ cs sel r j (b j) (hsel j), sim_apply]; rfl

/-- A block's output row. -/
theorem out_row (x : Vec Ideal S128x256 .f32) (kn : Vec Ideal S16384x256 .f32) (cs : BitVec 32) (sel : IVec S128x16384 1)
    (wq : Vec Ideal S256x128 .f32) (k v : Vec Ideal S16384x128 .f32) (wo : Vec Ideal S128x256 .f32) (r : Fin 128)
    (b : Fin 16384 → Bool) (hsel : ∀ j, sel (ix2 r j) = BitVec.ofBool (b j)) (e : Fin 256) :
    outOf (F := Ideal) (k1_pay3 x) (k1_pay4 x kn) cs sel wq k v wo (ix2 r e)
      = Spec.attend (Spec.keepBy b (Spec.near (rowAt x r) (rowsOf kn)) cs) (rowAt x r) (rowsOf wq) (rowsOf k) (rowsOf v) (rowsOf wo) e := by
  rw [out_apply _ _ cs sel wq k v wo r _ (fun j => keep_row x kn cs sel r b hsel j) e]
  unfold k1_pay3
  rw [same_eq]
  rfl

/-- A block's row of the counts. -/
theorem cnt_row (x : Vec Ideal S128x256 .f32) (kn : Vec Ideal S16384x256 .f32) (cs : BitVec 32) (sel : IVec S128x16384 1) (r : Fin 128)
    (u : Fin 1) (b : Fin 16384 → Bool) (hsel : ∀ j, sel (ix2 r j) = BitVec.ofBool (b j)) :
    k1_pay2 (F := Ideal) (k1_pay46 (k1_pay4 (F := Ideal) x kn) cs sel) (ix2 r u)
      = BitVec.ofNat 32 (Spec.count (Spec.keepBy b (Spec.near (rowAt x r) (rowsOf kn)) cs)) :=
  cnt_apply _ r u _ fun j => keep_row x kn cs sel r b hsel j

end Cert.KernelIdeal.Gen
-- ==== Proof.KernelIdeal.Stored.lean ====
/- What each attention kernel's body stores in its output blocks, from the contents of its input blocks. -/
module

public import proofs.«01_k».proof.Proof.KernelIdeal.Rounds
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL.ProofMode Idealize.SL.Sem

variable {F : FTy → Type} [FloatOps F] [Named F]

/-- The start of a whole block. -/
theorem hz2 : (![0, 0] : Fin 2 → Nat) = fun _ => 0 := funext fun a => by fin_cases a <;> rfl
/-- The start of the one word. -/
theorem hz1 : (![0] : Fin 1 → Nat) = fun _ => 0 := funext fun a => by fin_cases a <;> rfl

/-- The step's word, read from its one-word block. -/
abbrev wordOf (x0 : Vec F S1 .i32) : BitVec 32 := x0 (Shape.Idx.first (s := S1) (by decide))

/-- The step read from its memory. -/
theorem ld_word (x0 : Vec F S1 .i32) (inb : ∀ a, (![0] : Fin 1 → Nat) a + (![1] : Fin 1 → Nat) a ≤ S1.size a) (h) :
    View.ld x0 (Rect.unit (s := S1) ![0] ![1] inb) (Shape.Idx.first h) = wordOf x0 :=
  congrArg x0 (funext fun a => Fin.ext (by
    have h1 := ((Rect.unit (s := S1) ![0] ![1] inb).emb (Shape.Idx.first h) a).isLt
    have h2 := (Shape.Idx.first (s := S1) (by decide) a).isLt
    have h3 : S1.size a = 1 := by fin_cases a; rfl
    omega))

/-- Sixteen applications, as the exact kernel's parts nest them. -/
theorem iter16 {α : Type} (f : α → α) (x : α) :
    f (f (f (f (f (f (f (f (f (f (f (f (f (f (f (f x))))))))))))))) = f^[16] x := rfl

/-- The fast kernel's output block. -/
theorem out1_7 (c : Dev nD) (i : grid1.Coords) (a1 : Memref sig .tc .smem S1 .i32) (h1 : a1.IsWhole) (a2 : Memref sig .tc .vmem S128x256 .f32) (h2 : a2.IsWhole) (a3 : Memref sig .tc .vmem S16384x256 .f32) (h3 : a3.IsWhole) (a4 : Memref sig .tc .vmem S16384x128 .f32) (h4 : a4.IsWhole) (a5 : Memref sig .tc .vmem S16384x128 .f32) (h5 : a5.IsWhole) (a6 : Memref sig .tc .vmem S256x128 .f32) (h6 : a6.IsWhole) (a7 : Memref sig .tc .vmem S128x256 .f32) (h7 : a7.IsWhole) (a8 : Memref sig .tc .vmem S128x256 .f32) (h8 : a8.IsWhole) (a9 : Memref sig .tc .vmem S128x1 .i32) (h9 : a9.IsWhole) (a10 : Memref sig .tc .vmem S128x1 .i32) (h10 : a10.IsWhole)
    (x0 : Vec F S1 .i32) (x1 : Vec F S128x256 .f32) (x2 : Vec F S16384x256 .f32) (x3 x4 : Vec F S16384x128 .f32) (x5 : Vec F S256x128 .f32) (x6 : Vec F S128x256 .f32) :
    out1_A_7 c i a1 h1 a2 h2 a3 h3 a4 h4 a5 h5 a6 h6 a7 h7 a8 h8 a9 h9 a10 h10 x0 x1 x2 x3 x4 x5 x6 = outOf (k1_pay3 x1) (k1_pay4 x1 x2) (wordOf x0) (selOf (fround^[16] (k1_pay4 x1 x2))) x5 x3 x4 x6 := by
  unfold out1_A_7
  rw [View.read_writes_eq_canon _ _ _ (cover1_A_7 c i a1 h1 a2 h2 a3 h3 a4 h4 a5 h5 a6 h6 a7 h7 a8 h8 a9 h9 a10 h10 x0 x1 x2 x3 x4 x5 x6)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S128x256) hz2,
    View.ld_unit_zero (S := S16384x256) hz2, View.ld_unit_zero (S := S16384x128) hz2, View.ld_unit_zero (S := S256x128) hz2]
  rw [k1_v84, k1_v88]
  unfold k1_pay42
  rw [k1_w16, ← Function.iterate_add_apply]
  exact congrArg (fun w => outOf (k1_pay3 x1) (k1_pay4 x1 x2) w (selOf (fround^[16] (k1_pay4 x1 x2))) x5 x3 x4 x6) (ld_word x0 _ _)

/-- The fast kernel's counts. -/
theorem out1_8 (c : Dev nD) (i : grid1.Coords) (a1 : Memref sig .tc .smem S1 .i32) (h1 : a1.IsWhole) (a2 : Memref sig .tc .vmem S128x256 .f32) (h2 : a2.IsWhole) (a3 : Memref sig .tc .vmem S16384x256 .f32) (h3 : a3.IsWhole) (a4 : Memref sig .tc .vmem S16384x128 .f32) (h4 : a4.IsWhole) (a5 : Memref sig .tc .vmem S16384x128 .f32) (h5 : a5.IsWhole) (a6 : Memref sig .tc .vmem S256x128 .f32) (h6 : a6.IsWhole) (a7 : Memref sig .tc .vmem S128x256 .f32) (h7 : a7.IsWhole) (a8 : Memref sig .tc .vmem S128x256 .f32) (h8 : a8.IsWhole) (a9 : Memref sig .tc .vmem S128x1 .i32) (h9 : a9.IsWhole) (a10 : Memref sig .tc .vmem S128x1 .i32) (h10 : a10.IsWhole)
    (x0 : Vec F S1 .i32) (x1 : Vec F S128x256 .f32) (x2 : Vec F S16384x256 .f32) (x3 x4 : Vec F S16384x128 .f32) (x5 : Vec F S256x128 .f32) (x6 : Vec F S128x256 .f32) :
    out1_A_8 c i a1 h1 a2 h2 a3 h3 a4 h4 a5 h5 a6 h6 a7 h7 a8 h8 a9 h9 a10 h10 x0 x1 x2 x3 x4 x5 x6 = k1_pay2 (F := F) (k1_pay46 (k1_pay4 x1 x2) (wordOf x0) (selOf (fround^[16] (k1_pay4 x1 x2)))) := by
  unfold out1_A_8
  rw [View.read_writes_eq_canon _ _ _ (cover1_A_8 c i a1 h1 a2 h2 a3 h3 a4 h4 a5 h5 a6 h6 a7 h7 a8 h8 a9 h9 a10 h10 x0 x1 x2 x3 x4 x5 x6)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S128x256) hz2,
    View.ld_unit_zero (S := S16384x256) hz2, View.ld_unit_zero (S := S16384x128) hz2, View.ld_unit_zero (S := S256x128) hz2]
  rw [k1_v84, k1_v88]
  unfold k1_pay42
  rw [k1_w16, ← Function.iterate_add_apply]
  exact congrArg (fun w => k1_pay2 (F := F) (k1_pay46 (k1_pay4 x1 x2) w (selOf (fround^[16] (k1_pay4 x1 x2))))) (ld_word x0 _ _)

/-- The fast kernel's checks. -/
theorem out1_9 (c : Dev nD) (i : grid1.Coords) (a1 : Memref sig .tc .smem S1 .i32) (h1 : a1.IsWhole) (a2 : Memref sig .tc .vmem S128x256 .f32) (h2 : a2.IsWhole) (a3 : Memref sig .tc .vmem S16384x256 .f32) (h3 : a3.IsWhole) (a4 : Memref sig .tc .vmem S16384x128 .f32) (h4 : a4.IsWhole) (a5 : Memref sig .tc .vmem S16384x128 .f32) (h5 : a5.IsWhole) (a6 : Memref sig .tc .vmem S256x128 .f32) (h6 : a6.IsWhole) (a7 : Memref sig .tc .vmem S128x256 .f32) (h7 : a7.IsWhole) (a8 : Memref sig .tc .vmem S128x256 .f32) (h8 : a8.IsWhole) (a9 : Memref sig .tc .vmem S128x1 .i32) (h9 : a9.IsWhole) (a10 : Memref sig .tc .vmem S128x1 .i32) (h10 : a10.IsWhole)
    (x0 : Vec F S1 .i32) (x1 : Vec F S128x256 .f32) (x2 : Vec F S16384x256 .f32) (x3 x4 : Vec F S16384x128 .f32) (x5 : Vec F S256x128 .f32) (x6 : Vec F S128x256 .f32) :
    out1_A_9 c i a1 h1 a2 h2 a3 h3 a4 h4 a5 h5 a6 h6 a7 h7 a8 h8 a9 h9 a10 h10 x0 x1 x2 x3 x4 x5 x6 = badOf (k1_pay4 x1 x2) := by
  unfold out1_A_9
  rw [View.read_writes_eq_canon _ _ _ (cover1_A_9 c i a1 h1 a2 h2 a3 h3 a4 h4 a5 h5 a6 h6 a7 h7 a8 h8 a9 h9 a10 h10 x0 x1 x2 x3 x4 x5 x6)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S128x256) hz2,
    View.ld_unit_zero (S := S16384x256) hz2, View.ld_unit_zero (S := S16384x128) hz2, View.ld_unit_zero (S := S256x128) hz2]
  rw [k1_v84, k1_v87, k1_v88, k1_m16]
  unfold k1_pay43
  rw [k1_w16]
  simp only [← Function.iterate_add_apply]
  rfl

/-- The exact kernel's output block. -/
theorem out2_7 (c : Dev nD) (i : grid2.Coords) (a1 : Memref sig .tc .smem S1 .i32) (h1 : a1.IsWhole) (a2 : Memref sig .tc .vmem S128x256 .f32) (h2 : a2.IsWhole) (a3 : Memref sig .tc .vmem S16384x256 .f32) (h3 : a3.IsWhole) (a4 : Memref sig .tc .vmem S16384x128 .f32) (h4 : a4.IsWhole) (a5 : Memref sig .tc .vmem S16384x128 .f32) (h5 : a5.IsWhole) (a6 : Memref sig .tc .vmem S256x128 .f32) (h6 : a6.IsWhole) (a7 : Memref sig .tc .vmem S128x256 .f32) (h7 : a7.IsWhole) (a8 : Memref sig .tc .vmem S128x256 .f32) (h8 : a8.IsWhole) (a9 : Memref sig .tc .vmem S128x1 .i32) (h9 : a9.IsWhole)
    (x0 : Vec F S1 .i32) (x1 : Vec F S128x256 .f32) (x2 : Vec F S16384x256 .f32) (x3 x4 : Vec F S16384x128 .f32) (x5 : Vec F S256x128 .f32) (x6 : Vec F S128x256 .f32) :
    out2_A_7 c i a1 h1 a2 h2 a3 h3 a4 h4 a5 h5 a6 h6 a7 h7 a8 h8 a9 h9 x0 x1 x2 x3 x4 x5 x6 = outOf (k1_pay3 x1) (k1_pay4 x1 x2) (wordOf x0) (selOf (eround^[16] (k1_pay4 x1 x2))) x5 x3 x4 x6 := by
  unfold out2_A_7
  rw [View.read_writes_eq_canon _ _ _ (cover2_A_7 c i a1 h1 a2 h2 a3 h3 a4 h4 a5 h5 a6 h6 a7 h7 a8 h8 a9 h9 x0 x1 x2 x3 x4 x5 x6)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S128x256) hz2,
    View.ld_unit_zero (S := S16384x256) hz2, View.ld_unit_zero (S := S16384x128) hz2, View.ld_unit_zero (S := S256x128) hz2]
  rw [k2_m2, k2_w6, k2_i9, k2_w13, k2_i13, k2_w13, k2_keep, k2_w9, k2_w2, k2_q, k2_sim, k2_out, iter16 eround]
  exact congrArg (fun w => outOf (k1_pay3 x1) (k1_pay4 x1 x2) w (selOf (eround^[16] (k1_pay4 x1 x2))) x5 x3 x4 x6) (ld_word x0 _ _)

/-- The exact kernel's counts. -/
theorem out2_8 (c : Dev nD) (i : grid2.Coords) (a1 : Memref sig .tc .smem S1 .i32) (h1 : a1.IsWhole) (a2 : Memref sig .tc .vmem S128x256 .f32) (h2 : a2.IsWhole) (a3 : Memref sig .tc .vmem S16384x256 .f32) (h3 : a3.IsWhole) (a4 : Memref sig .tc .vmem S16384x128 .f32) (h4 : a4.IsWhole) (a5 : Memref sig .tc .vmem S16384x128 .f32) (h5 : a5.IsWhole) (a6 : Memref sig .tc .vmem S256x128 .f32) (h6 : a6.IsWhole) (a7 : Memref sig .tc .vmem S128x256 .f32) (h7 : a7.IsWhole) (a8 : Memref sig .tc .vmem S128x256 .f32) (h8 : a8.IsWhole) (a9 : Memref sig .tc .vmem S128x1 .i32) (h9 : a9.IsWhole)
    (x0 : Vec F S1 .i32) (x1 : Vec F S128x256 .f32) (x2 : Vec F S16384x256 .f32) (x3 x4 : Vec F S16384x128 .f32) (x5 : Vec F S256x128 .f32) (x6 : Vec F S128x256 .f32) :
    out2_A_8 c i a1 h1 a2 h2 a3 h3 a4 h4 a5 h5 a6 h6 a7 h7 a8 h8 a9 h9 x0 x1 x2 x3 x4 x5 x6 = k1_pay2 (F := F) (k1_pay46 (k1_pay4 x1 x2) (wordOf x0) (selOf (eround^[16] (k1_pay4 x1 x2)))) := by
  unfold out2_A_8
  rw [View.read_writes_eq_canon _ _ _ (cover2_A_8 c i a1 h1 a2 h2 a3 h3 a4 h4 a5 h5 a6 h6 a7 h7 a8 h8 a9 h9 x0 x1 x2 x3 x4 x5 x6)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S128x256) hz2,
    View.ld_unit_zero (S := S16384x256) hz2, View.ld_unit_zero (S := S16384x128) hz2, View.ld_unit_zero (S := S256x128) hz2]
  rw [k2_m2, k2_w6, k2_i9, k2_w13, k2_i13, k2_w13, k2_keep, k2_w9, k2_w2, k2_sim, k2_cnt, iter16 eround]
  exact congrArg (fun w => k1_pay2 (F := F) (k1_pay46 (k1_pay4 x1 x2) w (selOf (eround^[16] (k1_pay4 x1 x2))))) (ld_word x0 _ _)

end Cert.KernelIdeal.Gen

end
-- ==== Proof.KernelIdeal.Keys.lean ====
/- The key kernel's three arrays after its launch, at the ideal values: the keys' unit rows and the two projections. -/
module

public import proofs.«01_k».proof.Proof.KernelIdeal.Tail
public import proofs.«01_k».proof.Proof.KernelIdeal.Stored
public import Idealize.ShloMosaic.Lib.Pipeline.ValueKit

@[expose] public section

set_option maxRecDepth 16384

noncomputable section

namespace Cert.KernelIdeal.Gen

open Idealize.ShloMosaic hiding ix1 ix2 eq_ix2
open Idealize.ShloMosaic.TcCoe Idealize.ShloMosaic.ValueIdx
open Idealize.ShloMosaic.Tactic
open Idealize.ShloMosaic.Pipeline (Dat Cfg Window)
open scoped BigOperators

/-- A block's unit rows. -/
theorem pay_unit (x : Vec Ideal S4096x256 .f32) (r : Fin 4096) (k : Fin 256) :
    k0_pay2 (F := Ideal) x (ix2 r k) = Spec.unit (rowAt x r) k := by
  unfold k0_pay2 k0_pay1
  rw [same_eq]
  exact unit_apply x _ _ _ _ _ r k

/-- A block's keys. -/
theorem pay_key (x : Vec Ideal S4096x256 .f32) (w : Vec Ideal S256x128 .f32) (r : Fin 4096) (a : Fin 128) :
    k0_pay3 (F := Ideal) x w (ix2 r a) = Spec.proj (rowAt x r) (rowsOf w) a := by
  unfold k0_pay3 k0_pay1
  rw [same_eq]
  exact dot_apply x w r a

/-- A block's values. -/
theorem pay_value (x : Vec Ideal S4096x256 .f32) (w : Vec Ideal S256x128 .f32) (r : Fin 4096) (a : Fin 128) :
    k0_pay4 (F := Ideal) x w (ix2 r a) = Spec.proj (rowAt x r) (rowsOf w) a := by
  unfold k0_pay4 k0_pay1
  rw [same_eq]
  exact dot_apply x w r a

variable (V : (c : Dev nD) → (b : Ref sig .tc) → Buf (Elt Ideal) ((c : Thread nD τ).loc b))

/-- The blocks' places: the rows run with the grid point, the projections stay. -/
theorem idx0 : ∀ t : Fin cfg0.N, (cfg0.win 0).index t = ![(grid0.coords t 0).val, 0] ∧ (cfg0.win 1).index t = ![0, 0] ∧ (cfg0.win 2).index t = ![0, 0]
    ∧ (cfg0.win 3).index t = ![(grid0.coords t 0).val, 0] ∧ (cfg0.win 4).index t = ![(grid0.coords t 0).val, 0]
    ∧ (cfg0.win 5).index t = ![(grid0.coords t 0).val, 0] := by decide +kernel

/-- A row of a block of the embeddings is that row of the array. -/
theorem in_row0 (c : Dev nD) (t : Fin cfg0.N) (r : Fin 4096) (R : Fin 16384) (hR : R.val = (grid0.coords t 0).val * 4096 + r.val) :
    rowAt (iblk0 V c 0 t : Vec Ideal S4096x256 .f32) r = rowAt (V c main_v0) R := by
  funext j
  have h0 := (idx0 t).1
  have e0 : (((cfg0.win 0).blk t).view.emb (ix2 r j) 0 : ℕ) = (grid0.coords t 0).val * 4096 + r.val := by blk_simp [h0]; rfl
  have e1 : (((cfg0.win 0).blk t).view.emb (ix2 r j) 1 : ℕ) = j.val := by blk_simp [h0]; rfl
  exact congrArg (V c main_v0) (funext fun a => Fin.ext (match a with | 0 => e0.trans hR.symm | 1 => e1))

/-- The key weights' block is the array. -/
theorem in_wk0 (c : Dev nD) (t : Fin cfg0.N) : (iblk0 V c 1 t : Vec Ideal S256x128 .f32) = V c main_arg3 := by
  funext y
  have h := (idx0 t).2.1
  have e0 : (((cfg0.win 1).blk t).view.emb y 0 : ℕ) = (y 0).val := by blk_simp [h]
  have e1 : (((cfg0.win 1).blk t).view.emb y 1 : ℕ) = (y 1).val := by blk_simp [h]
  exact congrArg (V c main_arg3) (funext fun a => Fin.ext (match a with | 0 => e0 | 1 => e1))

/-- The value weights' block is the array. -/
theorem in_wv0 (c : Dev nD) (t : Fin cfg0.N) : (iblk0 V c 2 t : Vec Ideal S256x128 .f32) = V c main_arg4 := by
  funext y
  have h := (idx0 t).2.2.1
  have e0 : (((cfg0.win 2).blk t).view.emb y 0 : ℕ) = (y 0).val := by blk_simp [h]
  have e1 : (((cfg0.win 2).blk t).view.emb y 1 : ℕ) = (y 1).val := by blk_simp [h]
  exact congrArg (V c main_arg4) (funext fun a => Fin.ext (match a with | 0 => e0 | 1 => e1))

/-- The keys' unit rows. -/
theorem keys_unit (c : Dev nD) : (dat0 V c).arrAt 3 cfg0.N = fun i : S16384x256.Idx => Spec.unit (rowAt (V c main_v0) (i 0)) (i 1) := by
  refine (dat0 V c).arrAt_eq_of_covers 3 _ (by decide +kernel) fun t hf y => ?_
  blk_simp
  rw [after0_3]
  unfold out0_3
  obtain ⟨r, k, rfl⟩ : ∃ (r : Fin 4096) (k : Fin 256), y = ix2 r k := ⟨y 0, y 1, eq_ix2 y⟩
  obtain ⟨h0, h1, h2, h3, h4, h5⟩ := idx0 t
  rw [View.canon_unit_zero hz2, View.ld_unit_zero (S := S4096x256) hz2]
  have hk : (win0_3.blk t).view.emb (ix2 r k) 1 = k := Fin.ext (by blk_simp [h3]; rfl)
  have hr : ((win0_3.blk t).view.emb (ix2 r k) 0 : ℕ) = (grid0.coords t 0).val * 4096 + r.val := by blk_simp [h3]; rfl
  rw [hk]
  exact (pay_unit _ r k).trans (congrArg (fun f => Spec.unit f k) (in_row0 V c t r _ hr))

/-- The keys. -/
theorem keys_key (c : Dev nD) : (dat0 V c).arrAt 4 cfg0.N
    = fun i : S16384x128.Idx => Spec.proj (rowAt (V c main_v0) (i 0)) (rowsOf (V c main_arg3 : Vec Ideal S256x128 .f32)) (i 1) := by
  refine (dat0 V c).arrAt_eq_of_covers 4 _ (by decide +kernel) fun t hf y => ?_
  blk_simp
  rw [after0_4]
  unfold out0_4
  obtain ⟨r, k, rfl⟩ : ∃ (r : Fin 4096) (k : Fin 128), y = ix2 r k := ⟨y 0, y 1, eq_ix2 y⟩
  obtain ⟨h0, h1, h2, h3, h4, h5⟩ := idx0 t
  rw [View.canon_unit_zero hz2, View.ld_unit_zero (S := S4096x256) hz2, View.ld_unit_zero (S := S256x128) hz2, in_wk0]
  have hk : (win0_4.blk t).view.emb (ix2 r k) 1 = k := Fin.ext (by blk_simp [h4]; rfl)
  have hr : ((win0_4.blk t).view.emb (ix2 r k) 0 : ℕ) = (grid0.coords t 0).val * 4096 + r.val := by blk_simp [h4]; rfl
  rw [hk]
  exact (pay_key _ _ r k).trans (congrArg (fun f => Spec.proj f (rowsOf (V c main_arg3 : Vec Ideal S256x128 .f32)) k) (in_row0 V c t r _ hr))

/-- The values. -/
theorem keys_value (c : Dev nD) : (dat0 V c).arrAt 5 cfg0.N
    = fun i : S16384x128.Idx => Spec.proj (rowAt (V c main_v0) (i 0)) (rowsOf (V c main_arg4 : Vec Ideal S256x128 .f32)) (i 1) := by
  refine (dat0 V c).arrAt_eq_of_covers 5 _ (by decide +kernel) fun t hf y => ?_
  blk_simp
  rw [after0_5]
  unfold out0_5
  obtain ⟨r, k, rfl⟩ : ∃ (r : Fin 4096) (k : Fin 128), y = ix2 r k := ⟨y 0, y 1, eq_ix2 y⟩
  obtain ⟨h0, h1, h2, h3, h4, h5⟩ := idx0 t
  rw [View.canon_unit_zero hz2, View.ld_unit_zero (S := S4096x256) hz2, View.ld_unit_zero (S := S256x128) hz2, in_wv0]
  have hk : (win0_5.blk t).view.emb (ix2 r k) 1 = k := Fin.ext (by blk_simp [h5]; rfl)
  have hr : ((win0_5.blk t).view.emb (ix2 r k) 0 : ℕ) = (grid0.coords t 0).val * 4096 + r.val := by blk_simp [h5]; rfl
  rw [hk]
  exact (pay_value _ _ r k).trans (congrArg (fun f => Spec.proj f (rowsOf (V c main_arg4 : Vec Ideal S256x128 .f32)) k) (in_row0 V c t r _ hr))

end Cert.KernelIdeal.Gen
-- ==== Proof.KernelIdeal.Fast.lean ====
/- The fast attention kernel's arrays after its launch, at the ideal values: each query's output row, count and check. -/
module

public import proofs.«01_k».proof.Proof.KernelIdeal.Tail
public import proofs.«01_k».proof.Proof.KernelIdeal.Stored
public import Idealize.ShloMosaic.Lib.Pipeline.ValueKit

@[expose] public section

set_option maxRecDepth 16384

noncomputable section

namespace Cert.KernelIdeal.Gen

open Idealize.ShloMosaic hiding ix1 ix2 eq_ix2
open Idealize.ShloMosaic.TcCoe Idealize.ShloMosaic.ValueIdx
open Idealize.ShloMosaic.Tactic
open Idealize.ShloMosaic.Pipeline (Dat Cfg Window)
open scoped BigOperators

variable (V : (c : Dev nD) → (b : Ref sig .tc) → Buf (Elt Ideal) ((c : Thread nD τ).loc b))

/-- The blocks' places: the queries and the results run with the grid point, the rest stays. -/
theorem idx1 : ∀ t : Fin cfg1.N, (cfg1.win 0).index t = ![0] ∧ (cfg1.win 1).index t = ![(grid1.coords t 0).val, 0]
    ∧ (cfg1.win 2).index t = ![0, 0] ∧ (cfg1.win 3).index t = ![0, 0] ∧ (cfg1.win 4).index t = ![0, 0] ∧ (cfg1.win 5).index t = ![0, 0]
    ∧ (cfg1.win 6).index t = ![0, 0] ∧ (cfg1.win 7).index t = ![(grid1.coords t 0).val, 0]
    ∧ (cfg1.win 8).index t = ![(grid1.coords t 0).val, 0]
    ∧ (cfg1.win 9).index t = ![(grid1.coords t 0).val, 0] := by decide +kernel

/-- A row of a block of the queries is that row of the array. -/
theorem in_row1 (c : Dev nD) (t : Fin cfg1.N) (r : Fin 128) (R : Fin 1024) (hR : R.val = (grid1.coords t 0).val * 128 + r.val) :
    rowAt (iblk1 V c 1 t : Vec Ideal S128x256 .f32) r = rowAt (V c main_v1) R := by
  funext j
  have h0 := (idx1 t).2.1
  have e0 : (((cfg1.win 1).blk t).view.emb (ix2 r j) 0 : ℕ) = (grid1.coords t 0).val * 128 + r.val := by blk_simp [h0]; rfl
  have e1 : (((cfg1.win 1).blk t).view.emb (ix2 r j) 1 : ℕ) = j.val := by blk_simp [h0]; rfl
  exact congrArg (V c main_v1) (funext fun a => Fin.ext (match a with | 0 => e0.trans hR.symm | 1 => e1))

/-- The step's word. -/
theorem in_word1 (c : Dev nD) (t : Fin cfg1.N) : wordOf (iblk1 V c 0 t : Vec Ideal S1 .i32) = V c main_v3 (ix1 0) := by
  refine congrArg (V c main_v3) (funext fun a => ?_)
  exact match a with | 0 => Subsingleton.elim (α := Fin 1) _ _

/-- The whole-array block of input 2 is the array. -/
theorem in1_2 (c : Dev nD) (t : Fin cfg1.N) : (iblk1 V c 2 t : Vec Ideal S16384x256 .f32) = V c main_v2_0 := by
  funext y
  have h := (idx1 t).2.2.1
  have e0 : (((cfg1.win 2).blk t).view.emb y 0 : ℕ) = (y 0).val := by blk_simp [h]
  have e1 : (((cfg1.win 2).blk t).view.emb y 1 : ℕ) = (y 1).val := by blk_simp [h]
  exact congrArg (V c main_v2_0) (funext fun a => Fin.ext (match a with | 0 => e0 | 1 => e1))

/-- The whole-array block of input 3 is the array. -/
theorem in1_3 (c : Dev nD) (t : Fin cfg1.N) : (iblk1 V c 3 t : Vec Ideal S16384x128 .f32) = V c main_v2_1 := by
  funext y
  have h := (idx1 t).2.2.2.1
  have e0 : (((cfg1.win 3).blk t).view.emb y 0 : ℕ) = (y 0).val := by blk_simp [h]
  have e1 : (((cfg1.win 3).blk t).view.emb y 1 : ℕ) = (y 1).val := by blk_simp [h]
  exact congrArg (V c main_v2_1) (funext fun a => Fin.ext (match a with | 0 => e0 | 1 => e1))

/-- The whole-array block of input 4 is the array. -/
theorem in1_4 (c : Dev nD) (t : Fin cfg1.N) : (iblk1 V c 4 t : Vec Ideal S16384x128 .f32) = V c main_v2_2 := by
  funext y
  have h := (idx1 t).2.2.2.2.1
  have e0 : (((cfg1.win 4).blk t).view.emb y 0 : ℕ) = (y 0).val := by blk_simp [h]
  have e1 : (((cfg1.win 4).blk t).view.emb y 1 : ℕ) = (y 1).val := by blk_simp [h]
  exact congrArg (V c main_v2_2) (funext fun a => Fin.ext (match a with | 0 => e0 | 1 => e1))

/-- The whole-array block of input 5 is the array. -/
theorem in1_5 (c : Dev nD) (t : Fin cfg1.N) : (iblk1 V c 5 t : Vec Ideal S256x128 .f32) = V c main_arg2 := by
  funext y
  have h := (idx1 t).2.2.2.2.2.1
  have e0 : (((cfg1.win 5).blk t).view.emb y 0 : ℕ) = (y 0).val := by blk_simp [h]
  have e1 : (((cfg1.win 5).blk t).view.emb y 1 : ℕ) = (y 1).val := by blk_simp [h]
  exact congrArg (V c main_arg2) (funext fun a => Fin.ext (match a with | 0 => e0 | 1 => e1))

/-- The whole-array block of input 6 is the array. -/
theorem in1_6 (c : Dev nD) (t : Fin cfg1.N) : (iblk1 V c 6 t : Vec Ideal S128x256 .f32) = V c main_arg5 := by
  funext y
  have h := (idx1 t).2.2.2.2.2.2.1
  have e0 : (((cfg1.win 6).blk t).view.emb y 0 : ℕ) = (y 0).val := by blk_simp [h]
  have e1 : (((cfg1.win 6).blk t).view.emb y 1 : ℕ) = (y 1).val := by blk_simp [h]
  exact congrArg (V c main_arg5) (funext fun a => Fin.ext (match a with | 0 => e0 | 1 => e1))

/-- A query's similarities. -/
abbrev near1 (c : Dev nD) (R : Fin 1024) : Fin 16384 → EReal := Spec.near (rowAt (V c main_v1) R) (rowsOf (V c main_v2_0 : Vec Ideal S16384x256 .f32))

/-- Each query's output row. -/
theorem attn1_out (c : Dev nD) : (dat1 V c).arrAt 7 cfg1.N = fun i : S1024x256.Idx =>
    Spec.attend (Spec.keepBy (fastSel (near1 V c (i 0))) (near1 V c (i 0)) (V c main_v3 (ix1 0))) (rowAt (V c main_v1) (i 0))
      (rowsOf (V c main_arg2 : Vec Ideal S256x128 .f32)) (rowsOf (V c main_v2_1 : Vec Ideal S16384x128 .f32)) (rowsOf (V c main_v2_2 : Vec Ideal S16384x128 .f32))
      (rowsOf (V c main_arg5 : Vec Ideal S128x256 .f32)) (i 1) := by
  refine (dat1 V c).arrAt_eq_of_covers 7 _ (by decide +kernel) fun t hf y => ?_
  blk_simp
  rw [after1_7]
  unfold outsAt1
  dsimp only
  obtain ⟨r, e, rfl⟩ : ∃ (r : Fin 128) (e : Fin 256), y = ix2 r e := ⟨y 0, y 1, eq_ix2 y⟩
  obtain ⟨h0, h1, h2, h3, h4, h5, h6, h7, h8, h9⟩ := idx1 t
  rw [out1_7, in1_2, in1_3, in1_4, in1_5, in1_6, in_word1]
  have he : (win1_7.blk t).view.emb (ix2 r e) 1 = e := Fin.ext (by blk_simp [h7]; rfl)
  have hr : ((win1_7.blk t).view.emb (ix2 r e) 0 : ℕ) = (grid1.coords t 0).val * 128 + r.val := by blk_simp [h7]; rfl
  rw [he]
  have hrow := in_row1 V c t r _ hr
  refine (out_row _ _ _ _ _ _ _ _ r _ (fun j => fast_sel _ r j) e).trans ?_
  rw [sim_row, hrow]

/-- Each query's count. -/
theorem attn1_cnt (c : Dev nD) : (dat1 V c).arrAt 8 cfg1.N = fun i : S1024x1.Idx =>
    BitVec.ofNat 32 (Spec.count (Spec.keepBy (fastSel (near1 V c (i 0))) (near1 V c (i 0)) (V c main_v3 (ix1 0)))) := by
  refine (dat1 V c).arrAt_eq_of_covers 8 _ (by decide +kernel) fun t hf y => ?_
  blk_simp
  rw [after1_8]
  unfold outsAt1
  dsimp only
  obtain ⟨r, u, rfl⟩ : ∃ (r : Fin 128) (u : Fin 1), y = ix2 r u := ⟨y 0, y 1, eq_ix2 y⟩
  obtain ⟨h0, h1, h2, h3, h4, h5, h6, h7, h8, h9⟩ := idx1 t
  rw [out1_8, in1_2, in_word1]
  have hr : ((win1_8.blk t).view.emb (ix2 r u) 0 : ℕ) = (grid1.coords t 0).val * 128 + r.val := by blk_simp [h8]; rfl
  have hrow := in_row1 V c t r _ hr
  refine (cnt_row _ _ _ _ r u _ (fun j => fast_sel _ r j)).trans ?_
  rw [sim_row, hrow]

/-- Each query's check. -/
theorem attn1_bad (c : Dev nD) : (dat1 V c).arrAt 9 cfg1.N = fun i : S1024x1.Idx => fastBad (near1 V c (i 0)) := by
  refine (dat1 V c).arrAt_eq_of_covers 9 _ (by decide +kernel) fun t hf y => ?_
  blk_simp
  rw [after1_9]
  unfold outsAt1
  dsimp only
  obtain ⟨r, u, rfl⟩ : ∃ (r : Fin 128) (u : Fin 1), y = ix2 r u := ⟨y 0, y 1, eq_ix2 y⟩
  obtain ⟨h0, h1, h2, h3, h4, h5, h6, h7, h8, h9⟩ := idx1 t
  rw [out1_9, in1_2]
  have hr : ((win1_9.blk t).view.emb (ix2 r u) 0 : ℕ) = (grid1.coords t 0).val * 128 + r.val := by blk_simp [h9]; rfl
  have hrow := in_row1 V c t r _ hr
  rw [Subsingleton.elim u 0]
  refine (bad_apply _ r).trans ?_
  rw [sim_row, hrow]
  rw [Subsingleton.elim u 0]

end Cert.KernelIdeal.Gen
-- ==== Proof.KernelIdeal.Exact.lean ====
/- The exact attention kernel's arrays after its launch, at the ideal values: each query's output row, count. -/
module

public import proofs.«01_k».proof.Proof.KernelIdeal.Tail
public import proofs.«01_k».proof.Proof.KernelIdeal.Stored
public import Idealize.ShloMosaic.Lib.Pipeline.ValueKit

@[expose] public section

set_option maxRecDepth 16384

noncomputable section

namespace Cert.KernelIdeal.Gen

open Idealize.ShloMosaic hiding ix1 ix2 eq_ix2
open Idealize.ShloMosaic.TcCoe Idealize.ShloMosaic.ValueIdx
open Idealize.ShloMosaic.Tactic
open Idealize.ShloMosaic.Pipeline (Dat Cfg Window)
open scoped BigOperators

variable (V : (c : Dev nD) → (b : Ref sig .tc) → Buf (Elt Ideal) ((c : Thread nD τ).loc b))

/-- The blocks' places: the queries and the results run with the grid point, the rest stays. -/
theorem idx2 : ∀ t : Fin cfg2.N, (cfg2.win 0).index t = ![0] ∧ (cfg2.win 1).index t = ![(grid2.coords t 0).val, 0]
    ∧ (cfg2.win 2).index t = ![0, 0] ∧ (cfg2.win 3).index t = ![0, 0] ∧ (cfg2.win 4).index t = ![0, 0] ∧ (cfg2.win 5).index t = ![0, 0]
    ∧ (cfg2.win 6).index t = ![0, 0] ∧ (cfg2.win 7).index t = ![(grid2.coords t 0).val, 0]
    ∧ (cfg2.win 8).index t = ![(grid2.coords t 0).val, 0] := by decide +kernel

/-- A row of a block of the queries is that row of the array. -/
theorem in_row2 (c : Dev nD) (t : Fin cfg2.N) (r : Fin 128) (R : Fin 1024) (hR : R.val = (grid2.coords t 0).val * 128 + r.val) :
    rowAt (iblk2 V c 1 t : Vec Ideal S128x256 .f32) r = rowAt (V c main_v1) R := by
  funext j
  have h0 := (idx2 t).2.1
  have e0 : (((cfg2.win 1).blk t).view.emb (ix2 r j) 0 : ℕ) = (grid2.coords t 0).val * 128 + r.val := by blk_simp [h0]; rfl
  have e1 : (((cfg2.win 1).blk t).view.emb (ix2 r j) 1 : ℕ) = j.val := by blk_simp [h0]; rfl
  exact congrArg (V c main_v1) (funext fun a => Fin.ext (match a with | 0 => e0.trans hR.symm | 1 => e1))

/-- The step's word. -/
theorem in_word2 (c : Dev nD) (t : Fin cfg2.N) : wordOf (iblk2 V c 0 t : Vec Ideal S1 .i32) = V c main_v3 (ix1 0) := by
  refine congrArg (V c main_v3) (funext fun a => ?_)
  exact match a with | 0 => Subsingleton.elim (α := Fin 1) _ _

/-- The whole-array block of input 2 is the array. -/
theorem in2_2 (c : Dev nD) (t : Fin cfg2.N) : (iblk2 V c 2 t : Vec Ideal S16384x256 .f32) = V c main_v2_0 := by
  funext y
  have h := (idx2 t).2.2.1
  have e0 : (((cfg2.win 2).blk t).view.emb y 0 : ℕ) = (y 0).val := by blk_simp [h]
  have e1 : (((cfg2.win 2).blk t).view.emb y 1 : ℕ) = (y 1).val := by blk_simp [h]
  exact congrArg (V c main_v2_0) (funext fun a => Fin.ext (match a with | 0 => e0 | 1 => e1))

/-- The whole-array block of input 3 is the array. -/
theorem in2_3 (c : Dev nD) (t : Fin cfg2.N) : (iblk2 V c 3 t : Vec Ideal S16384x128 .f32) = V c main_v2_1 := by
  funext y
  have h := (idx2 t).2.2.2.1
  have e0 : (((cfg2.win 3).blk t).view.emb y 0 : ℕ) = (y 0).val := by blk_simp [h]
  have e1 : (((cfg2.win 3).blk t).view.emb y 1 : ℕ) = (y 1).val := by blk_simp [h]
  exact congrArg (V c main_v2_1) (funext fun a => Fin.ext (match a with | 0 => e0 | 1 => e1))

/-- The whole-array block of input 4 is the array. -/
theorem in2_4 (c : Dev nD) (t : Fin cfg2.N) : (iblk2 V c 4 t : Vec Ideal S16384x128 .f32) = V c main_v2_2 := by
  funext y
  have h := (idx2 t).2.2.2.2.1
  have e0 : (((cfg2.win 4).blk t).view.emb y 0 : ℕ) = (y 0).val := by blk_simp [h]
  have e1 : (((cfg2.win 4).blk t).view.emb y 1 : ℕ) = (y 1).val := by blk_simp [h]
  exact congrArg (V c main_v2_2) (funext fun a => Fin.ext (match a with | 0 => e0 | 1 => e1))

/-- The whole-array block of input 5 is the array. -/
theorem in2_5 (c : Dev nD) (t : Fin cfg2.N) : (iblk2 V c 5 t : Vec Ideal S256x128 .f32) = V c main_arg2 := by
  funext y
  have h := (idx2 t).2.2.2.2.2.1
  have e0 : (((cfg2.win 5).blk t).view.emb y 0 : ℕ) = (y 0).val := by blk_simp [h]
  have e1 : (((cfg2.win 5).blk t).view.emb y 1 : ℕ) = (y 1).val := by blk_simp [h]
  exact congrArg (V c main_arg2) (funext fun a => Fin.ext (match a with | 0 => e0 | 1 => e1))

/-- The whole-array block of input 6 is the array. -/
theorem in2_6 (c : Dev nD) (t : Fin cfg2.N) : (iblk2 V c 6 t : Vec Ideal S128x256 .f32) = V c main_arg5 := by
  funext y
  have h := (idx2 t).2.2.2.2.2.2.1
  have e0 : (((cfg2.win 6).blk t).view.emb y 0 : ℕ) = (y 0).val := by blk_simp [h]
  have e1 : (((cfg2.win 6).blk t).view.emb y 1 : ℕ) = (y 1).val := by blk_simp [h]
  exact congrArg (V c main_arg5) (funext fun a => Fin.ext (match a with | 0 => e0 | 1 => e1))

/-- A query's similarities. -/
abbrev near2 (c : Dev nD) (R : Fin 1024) : Fin 16384 → EReal := Spec.near (rowAt (V c main_v1) R) (rowsOf (V c main_v2_0 : Vec Ideal S16384x256 .f32))

/-- Each query's output row. -/
theorem attn2_out (c : Dev nD) (hs : ∀ R j, ((-1 : ℝ) : EReal) ≤ near2 V c R j) : (dat2 V c).arrAt 7 cfg2.N = fun i : S1024x256.Idx =>
    Spec.attend (Spec.keep (near2 V c (i 0)) (V c main_v3 (ix1 0))) (rowAt (V c main_v1) (i 0))
      (rowsOf (V c main_arg2 : Vec Ideal S256x128 .f32)) (rowsOf (V c main_v2_1 : Vec Ideal S16384x128 .f32)) (rowsOf (V c main_v2_2 : Vec Ideal S16384x128 .f32))
      (rowsOf (V c main_arg5 : Vec Ideal S128x256 .f32)) (i 1) := by
  refine (dat2 V c).arrAt_eq_of_covers 7 _ (by decide +kernel) fun t hf y => ?_
  blk_simp
  rw [after2_7]
  unfold outsAt2
  dsimp only
  obtain ⟨r, e, rfl⟩ : ∃ (r : Fin 128) (e : Fin 256), y = ix2 r e := ⟨y 0, y 1, eq_ix2 y⟩
  obtain ⟨h0, h1, h2, h3, h4, h5, h6, h7, h8⟩ := idx2 t
  rw [out2_7, in2_2, in2_3, in2_4, in2_5, in2_6, in_word2]
  have he : (win2_7.blk t).view.emb (ix2 r e) 1 = e := Fin.ext (by blk_simp [h7]; rfl)
  have hr : ((win2_7.blk t).view.emb (ix2 r e) 0 : ℕ) = (grid2.coords t 0).val * 128 + r.val := by blk_simp [h7]; rfl
  rw [he]
  have hrow := in_row2 V c t r _ hr
  refine (out_row _ _ _ _ _ _ _ _ r _ (fun j => exact_sel _ r (by rw [sim_row, hrow]; exact hs _) j) e).trans ?_
  rw [sim_row, hrow]
  rfl

/-- Each query's count. -/
theorem attn2_cnt (c : Dev nD) (hs : ∀ R j, ((-1 : ℝ) : EReal) ≤ near2 V c R j) : (dat2 V c).arrAt 8 cfg2.N = fun i : S1024x1.Idx =>
    BitVec.ofNat 32 (Spec.count (Spec.keep (near2 V c (i 0)) (V c main_v3 (ix1 0)))) := by
  refine (dat2 V c).arrAt_eq_of_covers 8 _ (by decide +kernel) fun t hf y => ?_
  blk_simp
  rw [after2_8]
  unfold outsAt2
  dsimp only
  obtain ⟨r, u, rfl⟩ : ∃ (r : Fin 128) (u : Fin 1), y = ix2 r u := ⟨y 0, y 1, eq_ix2 y⟩
  obtain ⟨h0, h1, h2, h3, h4, h5, h6, h7, h8⟩ := idx2 t
  rw [out2_8, in2_2, in_word2]
  have hr : ((win2_8.blk t).view.emb (ix2 r u) 0 : ℕ) = (grid2.coords t 0).val * 128 + r.val := by blk_simp [h8]; rfl
  have hrow := in_row2 V c t r _ hr
  refine (cnt_row _ _ _ _ r u _ (fun j => exact_sel _ r (by rw [sim_row, hrow]; exact hs _) j)).trans ?_
  rw [sim_row, hrow]
  rfl

end Cert.KernelIdeal.Gen
-- ==== Proof.KernelIdeal.Results.lean ====
/- The kernel's two results at the end of its run, at the ideal values, as functions of its arguments. -/
module

public import proofs.«01_k».proof.Proof.KernelIdeal.Run
public import proofs.«01_k».proof.Proof.KernelIdeal.Keys
public import proofs.«01_k».proof.Proof.KernelIdeal.Fast
public import proofs.«01_k».proof.Proof.KernelIdeal.Exact

@[expose] public section

set_option maxRecDepth 16384

noncomputable section

namespace Cert.KernelIdeal.Gen

open Idealize.ShloMosaic hiding ix1 ix2 eq_ix2
open Idealize.ShloMosaic.TcCoe Idealize.ShloMosaic.ValueIdx
open Idealize.ShloMosaic.Tactic Idealize.SL.ProofMode Idealize.SL.Sem
open Idealize.ShloMosaic.Pipeline (Dat Cfg Window)
open Idealize.ShloMosaic.StableHlo (after)
open scoped BigOperators

variable (m : (ℓ : Loc nD τ sig) → Buf (Elt Ideal) ℓ) (ρ : Dev nD → PrngReg) (c : Dev nD)

/-- The query rows. -/
abbrev qRows : Fin 1024 → Fin 256 → EReal :=
  rowsOf (shapeCast S1024x256 (m ((c : Thread nD τ).loc main_arg0) : Vec Ideal S32x32x256 .f32) shapeCasts_S32x32x256_S1024x256)
/-- The past rows. -/
abbrev tRows : Fin 16384 → Fin 256 → EReal :=
  rowsOf (shapeCast S16384x256 (m ((c : Thread nD τ).loc main_arg1) : Vec Ideal S16x32x32x256 .f32) shapeCasts_S16x32x32x256_S16384x256)
/-- The weights of the queries, by rows. -/
abbrev wqOf : Fin 256 → Fin 128 → EReal := rowsOf (m ((c : Thread nD τ).loc main_arg2) : Vec Ideal S256x128 .f32)
/-- The weights of the keys, by rows. -/
abbrev wkOf : Fin 256 → Fin 128 → EReal := rowsOf (m ((c : Thread nD τ).loc main_arg3) : Vec Ideal S256x128 .f32)
/-- The weights of the values, by rows. -/
abbrev wvOf : Fin 256 → Fin 128 → EReal := rowsOf (m ((c : Thread nD τ).loc main_arg4) : Vec Ideal S256x128 .f32)
/-- The weights of the output, by rows. -/
abbrev woOf : Fin 128 → Fin 256 → EReal := rowsOf (m ((c : Thread nD τ).loc main_arg5) : Vec Ideal S128x256 .f32)
/-- The step. -/
abbrev csOf : BitVec 32 := (m ((c : Thread nD τ).loc main_arg6) : Vec Ideal S_ .i32) HostLoop.idx0

/-! ## The host stretches' reads -/

/-- The past rows as the first region takes them. -/
theorem read_v0 (V : Valuation τ sig (Elt Ideal)) : after hostOps0 V (Proc.devRef .tc main_v0)
    = shapeCast S16384x256 (V (Proc.devRef .tc main_arg1) : Vec Ideal S16x32x32x256 .f32) shapeCasts_S16x32x32x256_S16384x256 := by
  after_results; rfl
/-- The query rows as the attentions take them. -/
theorem read_v1 (V : Valuation τ sig (Elt Ideal)) : after hostOps0 V (Proc.devRef .tc main_v1)
    = shapeCast S1024x256 (V (Proc.devRef .tc main_arg0) : Vec Ideal S32x32x256 .f32) shapeCasts_S32x32x256_S1024x256 := by
  after_results; rfl
/-- The step as the attentions take it. -/
theorem read_v3 (V : Valuation τ sig (Elt Ideal)) : after hostOps1 V (Proc.devRef .tc main_v3)
    = shapeCast S1 (V (Proc.devRef .tc main_arg6) : Vec Ideal S_ .i32) shapeCasts_S_S1 := by
  after_results; rfl
/-- The test that the branch takes. -/
theorem read_v6 (V : Valuation τ sig (Elt Ideal)) : after hostOps2 V (Proc.devRef .tc main_v6)
    = cmpi .sgt (Host.reduce IntOp.addi (V (Proc.devRef .tc main_v4_2) : Vec Ideal S1024x1 .i32) (constantI S_ 32 0#32) reducesTo_S1024x1_S_d0_1 h_S_)
        (constantI S_ 32 0#32) := by
  after_results
/-- The output, reshaped. -/
theorem read_v9 (V : Valuation τ sig (Elt Ideal)) : after hostOps2_1 V (Proc.devRef .tc main_v9)
    = shapeCast S32x32x256 (V (Proc.devRef .tc main_v8_0) : Vec Ideal S1024x256 .f32) shapeCasts_S1024x256_S32x32x256 := by
  after_results; rfl
/-- The sum of the counts. -/
theorem read_v10 (V : Valuation τ sig (Elt Ideal)) : after hostOps2_1 V (Proc.devRef .tc main_v10)
    = Host.reduce IntOp.addi (V (Proc.devRef .tc main_v8_1) : Vec Ideal S1024x1 .i32) (constantI S_ 32 0#32) reducesTo_S1024x1_S_d0_1 h_S_ := by
  after_results
/-- The arm that keeps the fast output. -/
theorem read_arm0 (V : Valuation τ sig (Elt Ideal)) : after armOps0 V (Proc.devRef .tc main_v8_0) = V (Proc.devRef .tc main_v4_0)
    ∧ after armOps0 V (Proc.devRef .tc main_v8_1) = V (Proc.devRef .tc main_v4_1) := by
  constructor <;> (after_results; rfl)
/-- The arm that takes the exact output. -/
theorem read_arm1 (V : Valuation τ sig (Elt Ideal)) : after armOps1 V (Proc.devRef .tc main_v8_0) = V (Proc.devRef .tc main_case0b1_v11_0)
    ∧ after armOps1 V (Proc.devRef .tc main_v8_1) = V (Proc.devRef .tc main_case0b1_v11_1) := by
  constructor <;> (after_results; rfl)
/-- The branch's word. -/
theorem read_word (V : Valuation τ sig (Elt Ideal)) : after [StableHlo.unary main_v6 main_v7
      ((extui 32 · natLt_1_32) : (⟨S_, .i1⟩ : BufTy).Contents (Elt Ideal) → (⟨S_, .i32⟩ : BufTy).Contents (Elt Ideal))] V (Proc.devRef .tc main_v7)
    = extui 32 (V (Proc.devRef .tc main_v6) : Vec Ideal S_ .i1) natLt_1_32 := by
  after_results

/-! ## The attention launches' entry contents -/

/-- The query rows at the fast attention. -/
theorem at3_v1 : rowsOf (V3 m ρ c main_v1 : Vec Ideal S1024x256 .f32) = qRows m c := by
  have h : V3 m ρ c main_v1 = after hostOps0 (W0 m ρ c) (Proc.devRef .tc main_v1) :=
    (W3_of m ρ c main_v1 (by decide +kernel)).trans (W2_of m ρ c main_v1 (by decide +kernel))
  rw [h, read_v1]

/-- The past rows at the first region. -/
theorem at1_v0 : rowsOf (V1 m ρ c main_v0 : Vec Ideal S16384x256 .f32) = tRows m c := by
  have h : V1 m ρ c main_v0 = after hostOps0 (W0 m ρ c) (Proc.devRef .tc main_v0) := rfl
  rw [h, read_v0]

/-- The step at the fast attention. -/
theorem at3_v3 : (V3 m ρ c main_v3 : Vec Ideal S1 .i32) (ix1 0) = csOf m c := by
  have h : V3 m ρ c main_v3 = after hostOps1 (W2 m ρ c) (Proc.devRef .tc main_v3) := rfl
  rw [h, read_v3, W2_args m ρ c main_arg6 (by decide)]
  refine shapeCast_apply _ _ _ _ ?_
  exact congrArg Fin.val (Subsingleton.elim (α := Fin 1) _ _)

/-- The unit rows that the first region leaves. -/
theorem at3_unit : rowsOf (V3 m ρ c main_v2_0 : Vec Ideal S16384x256 .f32) = fun j k => Spec.unit (tRows m c j) k := by
  have h : V3 m ρ c main_v2_0 = (dat0 (V1 m ρ) c).arrAt 3 cfg0.N :=
    (W3_of m ρ c main_v2_0 (by decide +kernel)).trans (W2_arr m ρ c 3)
  rw [h, keys_unit, ← at1_v0 m ρ c]

/-- The keys that the first region leaves. -/
theorem at3_key : rowsOf (V3 m ρ c main_v2_1 : Vec Ideal S16384x128 .f32) = fun j => Spec.proj (tRows m c j) (wkOf m c) := by
  have h : V3 m ρ c main_v2_1 = (dat0 (V1 m ρ) c).arrAt 4 cfg0.N :=
    (W3_of m ρ c main_v2_1 (by decide +kernel)).trans (W2_arr m ρ c 4)
  have hw : V1 m ρ c main_arg3 = m ((c : Thread nD τ).loc main_arg3) := W1_args m ρ c main_arg3 (by decide)
  rw [h, keys_key, ← at1_v0 m ρ c, hw]

/-- The values that the first region leaves. -/
theorem at3_value : rowsOf (V3 m ρ c main_v2_2 : Vec Ideal S16384x128 .f32) = fun j => Spec.proj (tRows m c j) (wvOf m c) := by
  have h : V3 m ρ c main_v2_2 = (dat0 (V1 m ρ) c).arrAt 5 cfg0.N :=
    (W3_of m ρ c main_v2_2 (by decide +kernel)).trans (W2_arr m ρ c 5)
  have hw : V1 m ρ c main_arg4 = m ((c : Thread nD τ).loc main_arg4) := W1_args m ρ c main_arg4 (by decide)
  rw [h, keys_value, ← at1_v0 m ρ c, hw]

/-- What the fast launch only reads, and what the host computes from nothing else, stands at the exact launch's entry. -/
theorem at6 (r : Ref sig .tc) (h : ∀ w : Fin cfg1.W, Pipeline.arrRef spec1 w = r → (cfg1.win w).isOut = false) (h2 : r ∉ hostOps2_W) (h3 : r ∉ rdOps_W) :
    V6 m ρ c r = V3 m ρ c r :=
  (W6_of m ρ c r h3).trans ((W5_of m ρ c r h2).trans (W4_of m ρ c r h))

/-- Products with unit rows are similarities. -/
theorem near_sim (x : Fin 256 → EReal) (kn T : Fin 16384 → Fin 256 → EReal) (h : kn = fun j k => Spec.unit (T j) k) :
    Spec.near x kn = Spec.sim x T := by rw [h]; rfl

/-- The fast attention's similarities. -/
theorem near1_eq (R : Fin 1024) : near1 (V3 m ρ) c R = Spec.sim (qRows m c R) (tRows m c) := by
  unfold near1
  rw [near_sim _ _ _ (at3_unit m ρ c), ← at3_v1 m ρ c]

/-- The exact attention's similarities. -/
theorem near2_eq (R : Fin 1024) : near2 (V6 m ρ) c R = Spec.sim (qRows m c R) (tRows m c) := by
  rw [← near1_eq m ρ]
  unfold near2 near1
  rw [at6 m ρ c main_v1 (by decide +kernel) (by decide +kernel) (by decide +kernel), at6 m ρ c main_v2_0 (by decide +kernel) (by decide +kernel) (by decide +kernel)]

/-! ## The launches' results -/

/-- The fast launch's results where every row's check passes. -/
theorem fast_results (hb : ∀ R, fastBad (Spec.sim (qRows m c R) (tRows m c)) = 0#32) :
    (dat1 (V3 m ρ) c).arrAt 7 cfg1.N = (fun i : S1024x256.Idx =>
        Spec.outs (qRows m c) (tRows m c) (wqOf m c) (wkOf m c) (wvOf m c) (woOf m c) (csOf m c) (i 0) (i 1))
      ∧ (dat1 (V3 m ρ) c).arrAt 8 cfg1.N = (fun i : S1024x1.Idx =>
        BitVec.ofNat 32 (Spec.count (Spec.keep (Spec.sim (qRows m c (i 0)) (tRows m c)) (csOf m c)))) := by
  have hk : ∀ R, Spec.keepBy (fastSel (near1 (V3 m ρ) c R)) (near1 (V3 m ρ) c R) (V3 m ρ c main_v3 (ix1 0))
      = Spec.keep (Spec.sim (qRows m c R) (tRows m c)) (csOf m c) := fun R => by
    rw [near1_eq, at3_v3, Spec.keep_eq]
    exact congrArg (fun b => Spec.keepBy b _ _) (funext fun j => fastSel_eq _ (fun j => Spec.sim_real _ _ j) (hb R) j)
  have hq : ∀ R, rowAt (V3 m ρ c main_v1 : Vec Ideal S1024x256 .f32) R = qRows m c R := fun R => congrFun (at3_v1 m ρ c) R
  have h2 : V3 m ρ c main_arg2 = m ((c : Thread nD τ).loc main_arg2) := W3_args m ρ c main_arg2 (by decide)
  have h5 : V3 m ρ c main_arg5 = m ((c : Thread nD τ).loc main_arg5) := W3_args m ρ c main_arg5 (by decide)
  constructor
  · rw [attn1_out]
    have row : ∀ (R : Fin 1024) (e : Fin 256), Spec.attend (Spec.keepBy (fastSel (near1 (V3 m ρ) c R)) (near1 (V3 m ρ) c R) (V3 m ρ c main_v3 (ix1 0))) (rowAt (V3 m ρ c main_v1 : Vec Ideal S1024x256 .f32) R)
        (rowsOf (V3 m ρ c main_arg2 : Vec Ideal S256x128 .f32)) (rowsOf (V3 m ρ c main_v2_1 : Vec Ideal S16384x128 .f32))
        (rowsOf (V3 m ρ c main_v2_2 : Vec Ideal S16384x128 .f32)) (rowsOf (V3 m ρ c main_arg5 : Vec Ideal S128x256 .f32)) e
        = Spec.outs (qRows m c) (tRows m c) (wqOf m c) (wkOf m c) (wvOf m c) (woOf m c) (csOf m c) R e := fun R e => by
      rw [hk, hq, at3_key, at3_value, h2, h5]
      rfl
    exact funext fun i => row (i 0) (i 1)
  · rw [attn1_cnt]
    exact funext fun i => congrArg (fun p => BitVec.ofNat 32 (Spec.count p)) (hk (i 0))

/-- The exact launch's results. -/
theorem exact_results :
    (dat2 (V6 m ρ) c).arrAt 7 cfg2.N = (fun i : S1024x256.Idx =>
        Spec.outs (qRows m c) (tRows m c) (wqOf m c) (wkOf m c) (wvOf m c) (woOf m c) (csOf m c) (i 0) (i 1))
      ∧ (dat2 (V6 m ρ) c).arrAt 8 cfg2.N = (fun i : S1024x1.Idx =>
        BitVec.ofNat 32 (Spec.count (Spec.keep (Spec.sim (qRows m c (i 0)) (tRows m c)) (csOf m c)))) := by
  have e1 := at6 m ρ c main_v1 (by decide +kernel) (by decide +kernel) (by decide +kernel)
  have e3 := at6 m ρ c main_v3 (by decide +kernel) (by decide +kernel) (by decide +kernel)
  have e21 := at6 m ρ c main_v2_1 (by decide +kernel) (by decide +kernel) (by decide +kernel)
  have e22 := at6 m ρ c main_v2_2 (by decide +kernel) (by decide +kernel) (by decide +kernel)
  have hs : ∀ R j, ((-1 : ℝ) : EReal) ≤ near2 (V6 m ρ) c R j := fun R j => by
    rw [near2_eq]
    obtain ⟨t, ht, h1, -⟩ := Spec.sim_real (qRows m c R) (tRows m c) j
    rw [ht]; exact EReal.coe_le_coe_iff.mpr h1
  have hk : ∀ R, Spec.keep (near2 (V6 m ρ) c R) (V6 m ρ c main_v3 (ix1 0))
      = Spec.keep (Spec.sim (qRows m c R) (tRows m c)) (csOf m c) := fun R => by
    rw [near2_eq, e3, at3_v3]
  have hq : ∀ R, rowAt (V6 m ρ c main_v1 : Vec Ideal S1024x256 .f32) R = qRows m c R := fun R => by
    rw [e1]; exact congrFun (at3_v1 m ρ c) R
  have h2 : V6 m ρ c main_arg2 = m ((c : Thread nD τ).loc main_arg2) := W6_args m ρ c main_arg2 (by decide)
  have h5 : V6 m ρ c main_arg5 = m ((c : Thread nD τ).loc main_arg5) := W6_args m ρ c main_arg5 (by decide)
  constructor
  · rw [attn2_out _ _ hs]
    have row : ∀ (R : Fin 1024) (e : Fin 256), Spec.attend (Spec.keep (near2 (V6 m ρ) c R) (V6 m ρ c main_v3 (ix1 0))) (rowAt (V6 m ρ c main_v1 : Vec Ideal S1024x256 .f32) R)
        (rowsOf (V6 m ρ c main_arg2 : Vec Ideal S256x128 .f32)) (rowsOf (V6 m ρ c main_v2_1 : Vec Ideal S16384x128 .f32))
        (rowsOf (V6 m ρ c main_v2_2 : Vec Ideal S16384x128 .f32)) (rowsOf (V6 m ρ c main_arg5 : Vec Ideal S128x256 .f32)) e
        = Spec.outs (qRows m c) (tRows m c) (wqOf m c) (wkOf m c) (wvOf m c) (woOf m c) (csOf m c) R e := fun R e => by
      rw [hk, hq, e21, e22, at3_key, at3_value, h2, h5]
      rfl
    exact funext fun i => row (i 0) (i 1)
  · rw [attn2_cnt _ _ hs]
    exact funext fun i => congrArg (fun p => BitVec.ofNat 32 (Spec.count p)) (hk (i 0))

/-! ## The branch -/

/-- A row's check as a number. -/
def badN (s : Fin 16384 → EReal) : ℕ := if fastBad s = 0#32 then 0 else 1

/-- A row's flag as a natural number. -/
theorem fastBad_nat (s : Fin 16384 → EReal) : fastBad s = BitVec.ofNat 32 (badN s) := by
  unfold badN fastBad
  rw [sel_ofBool]
  split <;> rfl

/-- The branch's word is 1 exactly where some row's check failed. -/
theorem word_eq : word m ρ c = if ∀ R, fastBad (Spec.sim (qRows m c R) (tRows m c)) = 0#32 then 0#32 else 1#32 := by
  have h : word m ρ c = extui 32 (W5 m ρ c (Proc.devRef .tc main_v6) : Vec Ideal S_ .i1) natLt_1_32 HostLoop.idx0 := by
    unfold word; rw [read_word]
  have h9 : W4 m ρ c (Proc.devRef .tc main_v4_2) = (dat1 (V3 m ρ) c).arrAt 9 cfg1.N := W4_arr m ρ c 9
  have hf : ∀ i : S1024x1.Idx, fastBad (near1 (V3 m ρ) c (i 0)) = BitVec.ofNat 32 (badN (Spec.sim (qRows m c (i 0)) (tRows m c))) := fun i =>
    (congrArg fastBad (near1_eq m ρ c (i 0))).trans (fastBad_nat _)
  have hr := Spec.reduce_words (t := S_) (fun i : S1024x1.Idx => fastBad (near1 (V3 m ρ) c (i 0))) _ hf (constantI S_ 32 0#32)
    reducesTo_S1024x1_S_d0_1 h_S_ rfl
  rw [h, show W5 m ρ c = after hostOps2 (W4 m ρ c) from rfl, read_v6, h9, attn1_bad]
  show (BitVec.ofBool ((0#32).slt (Host.reduce IntOp.addi (fun i : S1024x1.Idx => fastBad (near1 (V3 m ρ) c (i 0))) (constantI S_ 32 0#32)
    reducesTo_S1024x1_S_d0_1 h_S_ HostLoop.idx0))).setWidth 32 = _
  rw [hr, ValueIdx.sum_idx2]
  have hle : ∑ R : Fin 1024, ∑ _u : Fin 1, badN (Spec.sim (qRows m c R) (tRows m c)) ≤ ∑ R : Fin 1024, 1 :=
    Finset.sum_le_sum fun R _ => by simp only [Finset.univ_unique, Finset.sum_const, Finset.card_singleton, one_smul]; unfold badN; split <;> omega
  have hz : (∑ R : Fin 1024, ∑ _u : Fin 1, badN (Spec.sim (qRows m c R) (tRows m c)) = 0) ↔ ∀ R, fastBad (Spec.sim (qRows m c R) (tRows m c)) = 0#32 := by
    rw [Finset.sum_eq_zero_iff]
    refine ⟨fun h R => ?_, fun h R _ => ?_⟩
    · have := h R (Finset.mem_univ _)
      by_contra hb
      simp [badN, hb] at this
    · simp [badN, h R]
  show (BitVec.ofBool ((0#32).slt (BitVec.ofNat 32 (∑ R : Fin 1024, ∑ _u : Fin 1, badN (Spec.sim (qRows m c R) (tRows m c)))))).setWidth 32 = _
  generalize ∑ R : Fin 1024, ∑ _u : Fin 1, badN (Spec.sim (qRows m c R) (tRows m c)) = N at hle hz
  have hN : N ≤ 1024 := by simpa using hle
  have ht : (BitVec.ofNat 32 N).toInt = (N : ℤ) := by rw [BitVec.toInt_ofNat', Int.bmod_eq_of_le] <;> omega
  by_cases hN0 : N = 0
  · rw [if_pos (hz.mp hN0), hN0]; rfl
  · rw [if_neg fun h => hN0 (hz.mpr h)]
    have : (0#32).slt (BitVec.ofNat 32 N) = true := by
      rw [BitVec.slt_iff_toInt_lt, ht]
      show (0 : ℤ) < N
      omega
    rw [this]; rfl

/-- The branch's results: the rows attended, and each row's count. -/
theorem branch_results :
    W8 m ρ c (Proc.devRef .tc main_v8_0) = (fun i : S1024x256.Idx =>
        Spec.outs (qRows m c) (tRows m c) (wqOf m c) (wkOf m c) (wvOf m c) (woOf m c) (csOf m c) (i 0) (i 1))
      ∧ W8 m ρ c (Proc.devRef .tc main_v8_1) = (fun i : S1024x1.Idx =>
        BitVec.ofNat 32 (Spec.count (Spec.keep (Spec.sim (qRows m c (i 0)) (tRows m c)) (csOf m c)))) := by
  by_cases hb : ∀ R, fastBad (Spec.sim (qRows m c R) (tRows m c)) = 0#32
  · have hw : HostLoop.branch (word m ρ c) 1 = 0 := by rw [word_eq, if_pos hb]; rfl
    have h8 : W8 m ρ c = after armOps0 (W6 m ρ c) := by unfold W8; rw [hw]
    rw [h8, (read_arm0 _).1, (read_arm0 _).2]
    have h0 : W6 m ρ c (Proc.devRef .tc main_v4_0) = (dat1 (V3 m ρ) c).arrAt 7 cfg1.N :=
      (W6_of m ρ c main_v4_0 (by decide +kernel)).trans ((W5_of m ρ c main_v4_0 (by decide +kernel)).trans (W4_arr m ρ c 7))
    have h1 : W6 m ρ c (Proc.devRef .tc main_v4_1) = (dat1 (V3 m ρ) c).arrAt 8 cfg1.N :=
      (W6_of m ρ c main_v4_1 (by decide +kernel)).trans ((W5_of m ρ c main_v4_1 (by decide +kernel)).trans (W4_arr m ρ c 8))
    exact ⟨h0.trans (fast_results m ρ c hb).1, h1.trans (fast_results m ρ c hb).2⟩
  · have hw : HostLoop.branch (word m ρ c) 1 = 1 := by rw [word_eq, if_neg hb]; rfl
    have h8 : W8 m ρ c = after armOps1 (W7 m ρ c) := by unfold W8; rw [hw]
    rw [h8, (read_arm1 _).1, (read_arm1 _).2]
    exact ⟨(W7_arr m ρ c 7).trans (exact_results m ρ c).1, (W7_arr m ρ c 8).trans (exact_results m ρ c).2⟩

/-- The kernel's output. -/
theorem result_out : W9 m ρ c (Proc.devRef .tc main_v9) = shapeCast S32x32x256 (fun i : S1024x256.Idx =>
    Spec.outs (qRows m c) (tRows m c) (wqOf m c) (wkOf m c) (wvOf m c) (woOf m c) (csOf m c) (i 0) (i 1)) shapeCasts_S1024x256_S32x32x256 := by
  rw [show W9 m ρ c = after hostOps2_1 (W8 m ρ c) from rfl, read_v9, (branch_results m ρ c).1]

/-- The kernel's number of connections. -/
theorem result_count : W9 m ρ c (Proc.devRef .tc main_v10) = fun _ => BitVec.ofNat 32 (Spec.total (qRows m c) (tRows m c) (csOf m c)) := by
  rw [show W9 m ρ c = after hostOps2_1 (W8 m ρ c) from rfl, read_v10, (branch_results m ρ c).2]
  funext j
  refine (Spec.reduce_words _ (fun i : S1024x1.Idx => Spec.count (Spec.keep (Spec.sim (qRows m c (i 0)) (tRows m c)) (csOf m c))) (fun i => rfl) _ _ _ rfl j).trans ?_
  rw [ValueIdx.sum_idx2]
  exact congrArg (BitVec.ofNat 32) (Finset.sum_congr rfl fun R _ => Fintype.sum_unique _)

end Cert.KernelIdeal.Gen
-- ==== Proof.ReferenceIdeal.Take.lean ====
/- Host operations of the reference read at an index, at any sizes: the top-k of each row, the rows taken by an index, and the
   words of the mask. -/
module

public import proofs.«01_k».proof.Proof.Top
public import Idealize.ShloMosaic.PureOps.Ideal
public import Idealize.ShloMosaic.PureOps.Ideal.Laws
public import Idealize.ShloMosaic.Lib.ValueIdx

@[expose] public section

noncomputable section

namespace Cert.ReferenceIdeal.Take

open Idealize.ShloMosaic Idealize.ShloMosaic.ValueIdx
open scoped BigOperators

/-- An index of rank two is its two coordinates. -/
theorem at2 {m n : ℕ} (i : (⟨2, ![m, n]⟩ : Shape).Idx) (a : Fin m) (b : Fin n) (h0 : i 0 = a) (h1 : i 1 = b) : i = ix2 a b := by
  funext d
  match d with
  | ⟨0, _⟩ => exact h0
  | ⟨1, _⟩ => exact h1

/-- An index of rank three is its three coordinates. -/
theorem at3 {m n l : ℕ} (i : (⟨3, ![m, n, l]⟩ : Shape).Idx) (a : Fin m) (b : Fin n) (c : Fin l) (h0 : i 0 = a) (h1 : i 1 = b) (h2 : i 2 = c) :
    i = ix3 a b c := by
  funext d
  match d with
  | ⟨0, _⟩ => exact h0
  | ⟨1, _⟩ => exact h1
  | ⟨2, _⟩ => exact h2

/-- An index of rank two with its second coordinate replaced. -/
theorem along_ix2 {m n : ℕ} (i : (⟨2, ![m, n]⟩ : Shape).Idx) (k : Fin n) :
    Shape.Idx.along (s := ⟨2, ![m, n]⟩) i 1 k = ix2 (i 0) k := by
  refine at2 _ _ _ ?_ ?_
  · exact Function.update_of_ne zero_ne_one _ _
  · exact Function.update_self _ _ _

/-- The order that the top-k sorts by. -/
theorem gt_one (a b : EReal) : (FloatOps.cmpfTotal (F := Ideal) (φ := .f32) .gt a b == 1#1) = decide (b < a) := by
  show (BitVec.ofBool (decide (b < a)) == 1#1) = _
  cases decide (b < a) <;> rfl

section TopK
variable {m n k : ℕ} (x : (⟨2, ![m, n]⟩ : Shape).Idx → EReal) (h : (⟨2, ![m, n]⟩ : Shape).Slices (fun _ => 0) ⟨2, ![m, k]⟩)

/-- The values of the top-k: each row's entries at the first places of its stable descending sort. -/
theorem topK_values (hk : k ≤ n) (r : Fin m) (p : Fin k) :
    (Host.topK ⟨2, ![m, k]⟩ 1 (FloatOps.cmpfTotal (F := Ideal) (φ := .f32) .gt) x h).1 (ix2 r p)
      = x (ix2 r (Top.src (fun j => x (ix2 r j)) (p.castLE hk))) := by
  have e : ∀ J : (⟨2, ![m, n]⟩ : Shape).Idx, J = ix2 r (p.castLE hk) →
      x (J.along 1 (sortedFrom (fun q q' => FloatOps.cmpfTotal (F := Ideal) (φ := .f32) .gt (x (J.along 1 q)) (x (J.along 1 q')) == 1#1) (J 1)))
        = x (ix2 r (Top.src (fun j => x (ix2 r j)) (p.castLE hk))) := by
    rintro J rfl
    generalize hJ : ix2 r (p.castLE hk) = J
    have h0 : J 0 = r := by rw [← hJ]; rfl
    have h1 : J 1 = p.castLE hk := by rw [← hJ]; rfl
    have ha : ∀ q, J.along 1 q = ix2 r q := fun q => (along_ix2 J q).trans (congrArg (fun a : Fin m => ix2 a q) h0)
    simp only [ha, gt_one, h1]
    rfl
  exact e _ (at2 _ _ _ (Fin.ext (Nat.zero_add _)) (Fin.ext (Nat.zero_add _)))

/-- The positions of the top-k, as words. -/
theorem topK_indices (hk : k ≤ n) (r : Fin m) (p : Fin k) :
    (Host.topK ⟨2, ![m, k]⟩ 1 (FloatOps.cmpfTotal (F := Ideal) (φ := .f32) .gt) x h).2 (ix2 r p)
      = BitVec.ofNat 32 (Top.src (fun j => x (ix2 r j)) (p.castLE hk)).val := by
  have e : ∀ J : (⟨2, ![m, n]⟩ : Shape).Idx, J = ix2 r (p.castLE hk) →
      BitVec.ofNat 32 ((J.along 1 (sortedFrom (fun q q' => FloatOps.cmpfTotal (F := Ideal) (φ := .f32) .gt (x (J.along 1 q)) (x (J.along 1 q')) == 1#1) (J 1))) 1).val
        = BitVec.ofNat 32 (Top.src (fun j => x (ix2 r j)) (p.castLE hk)).val := by
    rintro J rfl
    generalize hJ : ix2 r (p.castLE hk) = J
    have h0 : J 0 = r := by rw [← hJ]; rfl
    have h1 : J 1 = p.castLE hk := by rw [← hJ]; rfl
    have ha : ∀ q, J.along 1 q = ix2 r q := fun q => (along_ix2 J q).trans (congrArg (fun a : Fin m => ix2 a q) h0)
    simp only [ha, gt_one, h1]
    rfl
  exact e _ (at2 _ _ _ (Fin.ext (Nat.zero_add _)) (Fin.ext (Nat.zero_add _)))

end TopK

section Rows
variable {α : Type} {n d r k w : ℕ}

/-- The dimension numbers of taking whole rows of `[n, d]` by indices `[r, k, 1]`. -/
abbrev rowDims (n d r k : ℕ) (wf : GatherDims.WF ⟨2, ![n, d]⟩ ⟨3, ![r, k, 1]⟩ ⟨3, ![r, k, d]⟩ [2] [0] [] [0] [] 2 ![1, d]) :
    GatherDims ⟨2, ![n, d]⟩ ⟨3, ![r, k, 1]⟩ ⟨3, ![r, k, d]⟩ where
  offsetDims := [2]
  collapsedSliceDims := [0]
  operandBatchingDims := []
  startIndicesBatchingDims := []
  startIndexMap := [0]
  indexVectorDim := 2
  sliceSizes := ![1, d]
  wf := wf

/-- The rows taken, at an index whose word is a row's number. -/
theorem gather_rows (wf : GatherDims.WF ⟨2, ![n, d]⟩ ⟨3, ![r, k, 1]⟩ ⟨3, ![r, k, d]⟩ [2] [0] [] [0] [] 2 ![1, d])
    (x : (⟨2, ![n, d]⟩ : Shape).Idx → α) (idx : IVec ⟨3, ![r, k, 1]⟩ w) (R : Fin r) (p : Fin k) (a : Fin d) (j : Fin n)
    (hj : (idx (ix3 R p 0)).toInt = j.val) :
    Host.gather (rowDims n d r k wf) x idx (ix3 R p a) = x (ix2 j a) := by
  unfold Host.gather
  refine congrArg x (at2 _ _ _ (Fin.ext ?_) (Fin.ext ?_))
  · show (rowDims n d r k wf).start (ix3 R p a) idx 0 + (rowDims n d r k wf).batchCoord (ix3 R p a) 0
        + (rowDims n d r k wf).offCoord (ix3 R p a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n d r k wf).startIndexMap from List.mem_singleton.mpr rfl)]
    have hsi : (rowDims n d r k wf).siIdx (ix3 R p a) ⟨List.idxOf (0 : Fin 2) (rowDims n d r k wf).startIndexMap,
        List.idxOf_lt_length_iff.2 (List.mem_singleton.mpr rfl)⟩ = ix3 R p 0 := by
      funext b; refine Fin.ext ?_
      match b with
      | ⟨0, _⟩ => rfl
      | ⟨1, _⟩ => rfl
      | ⟨2, _⟩ => rfl
    rw [hsi, hj]
    show min j.val (n - 1) = j.val
    have := j.isLt
    omega
  · show (rowDims n d r k wf).start (ix3 R p a) idx 1 + (rowDims n d r k wf).batchCoord (ix3 R p a) 1
        + (rowDims n d r k wf).offCoord (ix3 R p a) 1 = _
    rw [GatherDims.batchCoord_eq_zero _ _ _ List.not_mem_nil]
    unfold GatherDims.start
    rw [dif_neg (show ¬ (1 : Fin 2) ∈ (rowDims n d r k wf).startIndexMap from fun h => one_ne_zero (List.mem_singleton.mp h))]
    simp only [Nat.zero_add]
    rfl

end Rows

/-- A conjunction of bits all set is set. -/
theorem reduce_andi {s t u : Shape} {axes : List (Fin s.rank)} (x : s.Idx → BitVec 1) (hx : ∀ i, x i = 1#1) (init : u.Idx → BitVec 1)
    (h : s.ReducesTo axes t) (hu : 0 < u.numel) (hi : init (Shape.Idx.first hu) = 1#1) (j : t.Idx) :
    Host.reduce IntOp.andi x init h hu j = 1#1 := by
  rw [Host.reduce_eq_fold, hi]
  generalize (Finset.univ.filter fun i => h.drop i = j) = S
  induction S using Finset.cons_induction with
  | empty => rfl
  | cons a S ha ih => rw [Finset.fold_cons, ih, hx]; rfl

/-- The largest of each row, from minus infinity. -/
theorem reduce_max {s t u : Shape} {a : Fin s.rank} (x : s.Idx → EReal) (init : u.Idx → EReal) (h' : s.ReducesTo [a] t)
    (h : s.Reduces [a] t) (hu : 0 < u.numel) (hi : init (Shape.Idx.first hu) = ⊥) (j : t.Idx) :
    Host.reduce (FloatOps.maximumf (F := Ideal) (φ := .f32)) x init h' hu j = Top.rmax fun k => x (h.lift j k) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ x init h' h hu j, hi]
  rfl

/-! ## Words -/

/-- A small natural number read back from its word. -/
theorem toInt_nat (j : ℕ) (h : j < 2 ^ 31) : (BitVec.ofNat 32 j).toInt = (j : ℤ) := by
  rw [BitVec.toInt_ofNat', Int.bmod_eq_of_le] <;> omega

/-- The sign of a word. -/
def sgn (i : BitVec 32) : BitVec 32 := if i = 0 then 0 else if i.msb = true then -1 else 1

/-- The host's floor division of a position by 1024. -/
def floorDiv (i : BitVec 32) : BitVec 32 :=
  Scalar.select (IntOp.andi (IntOp.cmpi .ne (sgn i) (sgn 1024#32))
      (IntOp.cmpi .ne (IntOp.remsi .host i 1024#32) 0#32))
    (IntOp.subi (IntOp.divsi .host i 1024#32) 1#32) (IntOp.divsi .host i 1024#32)

/-- The floor division of a position by 1024 is that of the natural number. -/
theorem floorDiv_nat (j : ℕ) (h : j < 16384) : floorDiv (BitVec.ofNat 32 j) = BitVec.ofNat 32 (j / 1024) := by
  have hm : (BitVec.ofNat 32 j).msb = false := by
    rw [BitVec.msb_eq_false_iff_two_mul_lt, BitVec.toNat_ofNat]; omega
  have hc : ¬ IntOp.SDivCorner (BitVec.ofNat 32 j) 1024#32 := by
    unfold IntOp.SDivCorner; simp
  have hd : IntOp.divsi .host (BitVec.ofNat 32 j) 1024#32 = BitVec.ofNat 32 (j / 1024) := by
    unfold IntOp.divsi
    rw [if_neg hc, BitVec.sdiv_eq, hm, show (1024#32).msb = false from rfl]
    apply BitVec.eq_of_toNat_eq
    have e1 : j % 2 ^ 32 = j := Nat.mod_eq_of_lt (by omega)
    have e2 : j / 1024 % 2 ^ 32 = j / 1024 := Nat.mod_eq_of_lt (by omega)
    simp only [BitVec.udiv_eq, BitVec.toNat_udiv, BitVec.toNat_ofNat, e1, e2]
  have hr : j = 0 → IntOp.remsi .host (BitVec.ofNat 32 j) 1024#32 = 0#32 := by
    rintro rfl
    unfold IntOp.remsi
    rw [if_neg hc]; rfl
  have hcond : IntOp.andi (IntOp.cmpi .ne (sgn (BitVec.ofNat 32 j)) (sgn 1024#32))
      (IntOp.cmpi .ne (IntOp.remsi .host (BitVec.ofNat 32 j) 1024#32) 0#32) = 0#1 := by
    by_cases h0 : j = 0
    · rw [hr h0]
      show _ &&& (0#1) = _
      simp
    · have hne : ¬ BitVec.ofNat 32 j = 0 := fun e => h0 (by
        have := congrArg BitVec.toNat e
        simp only [BitVec.toNat_ofNat] at this
        have h0' : (0 : BitVec 32).toNat = 0 := rfl
        omega)
      have hs : sgn (BitVec.ofNat 32 j) = 1 := by unfold sgn; rw [if_neg hne, hm]; rfl
      rw [hs]
      show (0#1) &&& _ = _
      simp
  unfold floorDiv
  rw [hcond, hd]
  rfl

/-- The reference's test of an earlier step is the test of an earlier position. -/
theorem step_test (cs : BitVec 32) (h1 : -2097152 ≤ cs.toInt) (h2 : cs.toInt < 2097152) (j : ℕ) (hj : j < 16384) :
    ((1#32).sle (cs - BitVec.ofNat 32 (j / 1024)) && (BitVec.ofNat 32 (j / 1024)).slt cs) = (BitVec.ofNat 32 j).slt (cs * 1024#32) := by
  have ht := toInt_nat (j / 1024) (by omega)
  have hjt := toInt_nat j (by omega)
  have hs : (cs - BitVec.ofNat 32 (j / 1024)).toInt = cs.toInt - (j / 1024 : ℕ) := by
    rw [BitVec.toInt_sub, ht, Int.bmod_eq_of_le] <;> omega
  have hm : (cs * 1024#32).toInt = cs.toInt * 1024 := by
    rw [BitVec.toInt_mul, show (1024#32).toInt = 1024 from rfl, Int.bmod_eq_of_le] <;> omega
  rw [Bool.eq_iff_iff, Bool.and_eq_true, BitVec.sle_iff_toInt_le, BitVec.slt_iff_toInt_lt, BitVec.slt_iff_toInt_lt, hs, hm, ht, hjt,
    show (1#32).toInt = 1 from rfl]
  omega

end Cert.ReferenceIdeal.Take

end
-- ==== Proof.ReferenceIdeal.Value.lean ====
/- The reference's two results, at the ideal values, as functions of its arguments. -/
module

public import proofs.«01_k».proof.Proof.Gen.ReferenceIdeal.Read
public import proofs.«01_k».proof.Proof.Spec
public import proofs.«01_k».proof.Proof.ReferenceIdeal.Take

@[expose] public section

set_option maxRecDepth 16384

noncomputable section

namespace Cert.ReferenceIdeal.Rows

open Idealize.ShloMosaic Idealize.ShloMosaic.ValueIdx
open Cert.ReferenceIdeal Cert.ReferenceIdeal.Gen Cert.ReferenceIdeal.Read Cert.ReferenceIdeal.Take
open scoped BigOperators

/-! ## Constants and words -/

/-- The word of 128. -/
theorem ofBits_128 : Ideal.ofBits .f32 0x43000000#32 = ((128 : ℝ) : EReal) := by
  simp [Ideal.ofBits, Ideal.ieee]
  rw [← EReal.coe_mul]
  norm_num

/-- The word of minus infinity. -/
theorem ofBits_negInf : Ideal.ofBits .f32 0xFF800000#32 = ⊥ := by simp [Ideal.ofBits, Ideal.ieee]

/-- A choice by a truth value. -/
theorem select_bool {α : Type} (b : Bool) (x y : α) : Scalar.select (BitVec.ofBool b) x y = if b then x else y := by
  cases b <;> rfl

/-- The conjunction of two truth values. -/
theorem andi_bool (a b : Bool) : IntOp.andi (BitVec.ofBool a) (BitVec.ofBool b) = BitVec.ofBool (a && b) := by
  cases a <;> cases b <;> rfl

/-- A truth value as a 32-bit word: one or zero. -/
theorem wide_bool (b : Bool) : (BitVec.ofBool b).setWidth 32 = BitVec.ofNat 32 (if b then 1 else 0) := by
  cases b <;> rfl

/-- Division by the square root of 128 is the product with its inverse. -/
theorem div_sqrt (x : EReal) : Ideal.div x (Ideal.sqrt (Ideal.ofBits .f32 0x43000000#32)) = x * (((Real.sqrt 128)⁻¹ : ℝ) : EReal) := by
  have h : Real.sqrt 128 ≠ 0 := by positivity
  rw [ofBits_128, Ideal.sqrt_coe, if_neg (by norm_num), Ideal.div, if_neg (by simpa using h), EReal.coe_inv]

variable (x0 : (⟨S32x32x256, .f32⟩ : BufTy).Contents (Elt Ideal)) (x1 : (⟨S16x32x32x256, .f32⟩ : BufTy).Contents (Elt Ideal))
  (x2 x3 x4 : (⟨S256x128, .f32⟩ : BufTy).Contents (Elt Ideal)) (x5 : (⟨S128x256, .f32⟩ : BufTy).Contents (Elt Ideal))
  (x6 : (⟨S_, .i32⟩ : BufTy).Contents (Elt Ideal))

/-- The rows of a matrix. -/
abbrev rows {m n : ℕ} (w : (⟨2, ![m, n]⟩ : Shape).Idx → EReal) : Fin m → Fin n → EReal := fun r j => w (ix2 r j)
/-- The query rows. -/
abbrev Q : Fin 1024 → Fin 256 → EReal := rows (shapeCast S1024x256 x0 shapeCasts_S32x32x256_S1024x256)
/-- The past rows. -/
abbrev T : Fin 16384 → Fin 256 → EReal := rows (shapeCast S16384x256 x1 shapeCasts_S16x32x32x256_S16384x256)
/-- A query's similarities with the past rows. -/
abbrev S (R : Fin 1024) : Fin 16384 → EReal := Spec.sim (Q x0 R) (T x1)
/-- The places of a query's sixteen most similar rows. -/
abbrev at16 (R : Fin 1024) : Fin 16 → Fin 16384 := Spec.slot (by norm_num) (S x0 x1 R)

/-! ## Similarities and the sixteen best -/

/-- The reference's normalised query rows. -/
theorem unit_query (R : Fin 1024) (k : Fin 256) : val_main_v11 (F := Ideal) x0 (ix2 R k) = Spec.unit (Q x0 R) k := by
  have e : ∀ q, idx_main_v5 (idx_main_v6 (idx_main_v10 (ix2 R k))) q = ix2 R q := fun q => at2 _ _ _ rfl rfl
  rw [val_main_v11_apply, val_main_v10_apply, val_main_v9_apply, val_main_v7_apply, val_main_v6_apply, val_main_v5_apply, val_main_v8_apply]
  simp only [e, val_main_v4_apply]
  show Ideal.div (Q x0 R k) (max (Ideal.sqrt (Ideal.ofBits .f32 0#32 + ∑ q, Q x0 R q * Q x0 R q)) Spec.tiny) = _
  rw [Ideal.ofBits_zero_f32, zero_add]
  rfl

/-- The reference's normalised past rows. -/
theorem unit_past (j : Fin 16384) (k : Fin 256) : val_main_v19 (F := Ideal) x1 (ix2 j k) = Spec.unit (T x1 j) k := by
  have e : ∀ q, idx_main_v13 (idx_main_v14 (idx_main_v18 (ix2 j k))) q = ix2 j q := fun q => at2 _ _ _ rfl rfl
  rw [val_main_v19_apply, val_main_v18_apply, val_main_v17_apply, val_main_v15_apply, val_main_v14_apply, val_main_v13_apply, val_main_v16_apply]
  simp only [e, val_main_v12_apply]
  show Ideal.div (T x1 j k) (max (Ideal.sqrt (Ideal.ofBits .f32 0#32 + ∑ q, T x1 j q * T x1 j q)) Spec.tiny) = _
  rw [Ideal.ofBits_zero_f32, zero_add]
  rfl

/-- The reference's similarities. -/
theorem sim_read (R : Fin 1024) (j : Fin 16384) : val_main_v21 (F := Ideal) x0 x1 (ix2 R j) = S x0 x1 R j := by
  rw [val_main_v21_apply]
  refine Finset.sum_congr rfl fun k _ => ?_
  rw [show lidx_main_v21 (ix2 R j) k = ix2 R k from at2 _ _ _ rfl rfl, unit_query, val_main_v20_apply,
    show idx_main_v20 (ridx_main_v21 (ix2 R j) k) = ix2 j k from at2 _ _ _ rfl rfl, unit_past]

/-- A row of the reference's similarities. -/
theorem sim_row (R : Fin 1024) : (fun j => val_main_v21 (F := Ideal) x0 x1 (ix2 R j)) = S x0 x1 R := funext (sim_read x0 x1 R)

/-- The `k`-th value of the top-k is the similarity at the `k`-th place. -/
theorem values_read (R : Fin 1024) (k : Fin 16) : val_main_values (F := Ideal) x0 x1 (ix2 R k) = S x0 x1 R (at16 x0 x1 R k) := by
  refine (topK_values (val_main_v21 (F := Ideal) x0 x1) sliceFits_S1024x16384_S1024x16 (by norm_num) R k).trans ?_
  rw [sim_row, sim_read]
  rfl

/-- The `k`-th index of the top-k is the `k`-th place. -/
theorem indices_read (R : Fin 1024) (k : Fin 16) : val_main_indices (F := Ideal) x0 x1 (ix2 R k) = BitVec.ofNat 32 (at16 x0 x1 R k).val := by
  refine (topK_indices (val_main_v21 (F := Ideal) x0 x1) sliceFits_S1024x16384_S1024x16 (by norm_num) R k).trans ?_
  rw [sim_row]
  rfl

/-! ## The mask -/

/-- A place's step is the place divided by 1024. -/
theorem step_read (R : Fin 1024) (k : Fin 16) :
    val_main_v24 (F := Ideal) x0 x1 (ix2 R k) = BitVec.ofNat 32 ((at16 x0 x1 R k).val / 1024) := by
  have e : val_main_v24 (F := Ideal) x0 x1 (ix2 R k) = floorDiv (val_main_indices (F := Ideal) x0 x1 (ix2 R k)) := by
    rw [val_main_v24_apply, val_main_call0_v11_apply, val_main_call0_v13_apply, val_main_call0_v6_apply, val_main_call0_v10_apply,
      val_main_call0_v8_apply, val_main_call0_v2_apply, val_main_call0_v5_apply, val_main_call0_v1_apply, val_main_call0_v7_apply,
      val_main_call0_v9_apply, val_main_call0_v12_apply]
    unfold val_main_call0_v3
    generalize val_main_indices (F := Ideal) x0 x1 = y
    rfl
  rw [e, indices_read, floorDiv_nat _ (at16 x0 x1 R k).isLt]

variable (cs : BitVec 32) (hcs : ∀ i, x6 i = cs) (h1 : -2097152 ≤ cs.toInt) (h2 : cs.toInt < 2097152)
include hcs h1 h2

/-- The reference's mask is the kept connections at the sixteen places. -/
theorem mask_read (R : Fin 1024) (k : Fin 16) :
    val_main_v32 (F := Ideal) x0 x1 x6 (ix2 R k) = BitVec.ofBool (Spec.keep (S x0 x1 R) cs (at16 x0 x1 R k)) := by
  rw [val_main_v32_apply, val_main_v29_apply, val_main_v23_apply, val_main_v28_apply, val_main_v31_apply, val_main_v26_apply,
    val_main_v25_apply, val_main_v27_apply, val_main_v30_apply, val_main_v22_apply, values_read, step_read, hcs]
  show IntOp.andi (IntOp.andi (BitVec.ofBool (decide (Ideal.ofBits .f32 0#32 < S x0 x1 R (at16 x0 x1 R k))))
      (BitVec.ofBool ((1#32).sle (cs - BitVec.ofNat 32 ((at16 x0 x1 R k).val / 1024)))))
      (BitVec.ofBool ((BitVec.ofNat 32 ((at16 x0 x1 R k).val / 1024)).slt cs)) = _
  rw [andi_bool, andi_bool, Bool.and_assoc, step_test cs h1 h2 _ (at16 x0 x1 R k).isLt, Ideal.ofBits_zero_f32,
    Spec.keep_slot (by norm_num)]

omit hcs h1 h2

/-! ## The rows taken -/

/-- The index that the rows are taken by: the place itself, which is not negative. -/
theorem word_read (R : Fin 1024) (k : Fin 16) (u : Fin 1) :
    val_main_call1_v5 (F := Ideal) x0 x1 (ix3 R k u) = BitVec.ofNat 32 (at16 x0 x1 R k).val := by
  rw [val_main_call1_v5_apply, show idx_main_call1_v5 (ix3 R k u) = ix2 R k from at2 _ _ _ rfl rfl, val_main_call1_v4_apply,
    val_main_call1_v1_apply, val_main_call1_v0_apply, indices_read]
  have h : (BitVec.ofNat 32 (at16 x0 x1 R k).val).slt 0#32 = false := by
    have hj := (at16 x0 x1 R k).isLt
    rw [BitVec.slt_eq_decide, toInt_nat _ (by omega), show (0#32).toInt = 0 from rfl, decide_eq_false_iff_not]
    omega
  show Scalar.select (BitVec.ofBool ((BitVec.ofNat 32 (at16 x0 x1 R k).val).slt 0#32)) _ _ = _
  rw [h]
  rfl

/-- Every index taken lies inside the past rows. -/
theorem inside (i : S1024x16x1.Idx) : val_main_call1_v11 (F := Ideal) x0 x1 i = 1#1 := by
  obtain ⟨R, k, u, rfl⟩ : ∃ (R : Fin 1024) (k : Fin 16) (u : Fin 1), i = ix3 R k u := ⟨i 0, i 1, i 2, at3 _ _ _ _ rfl rfl rfl⟩
  rw [val_main_call1_v11_apply, val_main_call1_v7_apply, val_main_call1_v10_apply, word_read, val_main_call1_v6_apply,
    val_main_call1_v9_apply, val_main_call1_v8_apply]
  have hj := (at16 x0 x1 R k).isLt
  generalize (at16 x0 x1 R k).val = j at hj
  show IntOp.andi (BitVec.ofBool ((0#32).sle (BitVec.ofNat 32 j))) (BitVec.ofBool ((BitVec.ofNat 32 j).sle 16383#32)) = _
  have a : (0#32).sle (BitVec.ofNat 32 j) = true := by
    rw [BitVec.sle_iff_toInt_le, toInt_nat j (by omega)]; exact Int.natCast_nonneg j
  have b : (BitVec.ofNat 32 j).sle 16383#32 = true := by
    rw [BitVec.sle_iff_toInt_le, toInt_nat _ (by omega), show (16383#32).toInt = 16383 from rfl]; omega
  rw [a, b]
  rfl

/-- So the test of the indices taken passes everywhere. -/
theorem inside_all (i : S1024x16.Idx) : val_main_call1_v12 (F := Ideal) x0 x1 i = 1#1 :=
  reduce_andi _ (inside x0 x1) _ _ _ rfl i

/-- A row taken from a matrix of past rows: the row at the place. -/
theorem take_row (w : S16384x128.Idx → EReal) (z : EReal) (R : Fin 1024) (k : Fin 16) (a : Fin 128) :
    Scalar.select (val_main_call1_v12 (F := Ideal) x0 x1 (ix2 R k))
      (Host.gather gather_S16384x128_S1024x16x1_S1024x16x128_2_0_n_n_0_2_1128 w (val_main_call1_v5 (F := Ideal) x0 x1) (ix3 R k a)) z
      = w (ix2 (at16 x0 x1 R k) a) := by
  rw [inside_all]
  refine (show Scalar.select 1#1 _ z = _ from rfl).trans ?_
  refine gather_rows _ w _ R k a _ ?_
  have hj := (at16 x0 x1 R k).isLt
  rw [word_read, toInt_nat _ (by omega)]

/-- The projected past rows. -/
theorem keys_read (j : Fin 16384) (a : Fin 128) : val_main_v33 (F := Ideal) x1 x3 (ix2 j a) = Spec.proj (T x1 j) (rows x3) a := by
  rw [val_main_v33_apply]
  refine Finset.sum_congr rfl fun k _ => ?_
  rw [show lidx_main_v33 (ix2 j a) k = ix2 j k from at2 _ _ _ rfl rfl, show ridx_main_v33 (ix2 j a) k = ix2 k a from at2 _ _ _ rfl rfl]
  rfl

/-- The projected query rows. -/
theorem query_read (R : Fin 1024) (a : Fin 128) : val_main_v1 (F := Ideal) x0 x2 (ix2 R a) = Spec.proj (Q x0 R) (rows x2) a := by
  rw [val_main_v1_apply]
  refine Finset.sum_congr rfl fun k _ => ?_
  rw [show lidx_main_v1 (ix2 R a) k = ix2 R k from at2 _ _ _ rfl rfl, show ridx_main_v1 (ix2 R a) k = ix2 k a from at2 _ _ _ rfl rfl]
  rfl

/-- The keys taken at a query's sixteen places. -/
theorem taken_key (R : Fin 1024) (k : Fin 16) (a : Fin 128) :
    val_main_v35 (F := Ideal) x0 x1 x3 (ix3 R k a) = Spec.proj (T x1 (at16 x0 x1 R k)) (rows x3) a := by
  rw [val_main_v35_apply, val_main_call1_v14_apply, show idx_main_call1_v14 (ix3 R k a) = ix2 R k from at2 _ _ _ rfl rfl]
  exact (take_row x0 x1 (val_main_v33 (F := Ideal) x1 x3) _ R k a).trans (keys_read x1 x3 _ a)

/-- The values taken at a query's sixteen places. -/
theorem taken_value (R : Fin 1024) (k : Fin 16) (a : Fin 128) :
    val_main_v36 (F := Ideal) x0 x1 x4 (ix3 R k a) = Spec.proj (T x1 (at16 x0 x1 R k)) (rows x4) a := by
  rw [val_main_v36_apply, val_main_call2_v14_apply, show idx_main_call2_v14 (ix3 R k a) = ix2 R k from at2 _ _ _ rfl rfl]
  exact (take_row x0 x1 (val_main_v34 (F := Ideal) x1 x4) _ R k a).trans (keys_read x1 x4 _ a)

/-! ## The softmax -/

/-- A query's scores against all the past rows. -/
abbrev sc (R : Fin 1024) : Fin 16384 → EReal :=
  Spec.score (Spec.proj (Q x0 R) (rows x2)) (fun j => Spec.proj (T x1 j) (rows x3)) (((Real.sqrt 128)⁻¹ : ℝ) : EReal)

/-- The reference's scores at a query's sixteen places. -/
theorem score_read (R : Fin 1024) (k : Fin 16) :
    val_main_v40 (F := Ideal) x0 x1 x2 x3 (ix2 R k) = sc x0 x1 x2 x3 R (at16 x0 x1 R k) := by
  rw [val_main_v40_apply, val_main_v39_apply, val_main_v38_apply, val_main_v37_apply]
  have e : ∑ a : Fin 128, (val_main_v1 (F := Ideal) x0 x2) (lidx_main_v37 (ix2 R k) a) * (val_main_v35 (F := Ideal) x0 x1 x3) (ridx_main_v37 (ix2 R k) a)
      = ∑ a, Spec.proj (Q x0 R) (rows x2) a * Spec.proj (T x1 (at16 x0 x1 R k)) (rows x3) a :=
    Finset.sum_congr rfl fun a _ => by
      rw [show lidx_main_v37 (ix2 R k) a = ix2 R a from at2 _ _ _ rfl rfl, show ridx_main_v37 (ix2 R k) a = ix3 R k a from at3 _ _ _ _ rfl rfl rfl,
        query_read, taken_key]
  rw [e]
  refine (div_sqrt _).trans ?_
  exact (Spec.score_scale _ (fun j => Spec.proj (T x1 j) (rows x3)) _ (by positivity) _).symm

/-- A query's kept places among its sixteen, and their scores. -/
abbrev kp (cs : BitVec 32) (R : Fin 1024) : Fin 16 → Bool := fun k => Spec.keep (S x0 x1 R) cs (at16 x0 x1 R k)
/-- A query's scores at its sixteen places. -/
abbrev sc16 (R : Fin 1024) : Fin 16 → EReal := fun k => sc x0 x1 x2 x3 R (at16 x0 x1 R k)

include hcs h1 h2

/-- The scores, with minus infinity at the connections left out. -/
theorem masked_read (R : Fin 1024) (k : Fin 16) :
    val_main_v41 (F := Ideal) x0 x1 x2 x3 x6 (ix2 R k) = Spec.masked (kp x0 x1 cs R) (sc16 x0 x1 x2 x3 R) k := by
  rw [val_main_v41_apply, mask_read x0 x1 x6 cs hcs h1 h2, score_read, select_bool, val_main_call3_v1_apply]
  unfold Spec.masked
  rw [← ofBits_negInf]
  rfl

/-- The softmax's row maximum. -/
theorem max_read (R : Fin 1024) : val_main_v44 (F := Ideal) x0 x1 x2 x3 x6 (ix1 R)
    = Top.rmax (Spec.masked (kp x0 x1 cs R) (sc16 x0 x1 x2 x3 R)) := by
  have h : S1024x16.Reduces [1] S1024 := by decide
  have hm := reduce_max (val_main_v41 (F := Ideal) x0 x1 x2 x3 x6) (val_main_cst_7 (F := Ideal)) reducesTo_S1024x16_S1024_d1 h h_S_ ofBits_negInf (ix1 R)
  have e : (fun k => val_main_v41 (F := Ideal) x0 x1 x2 x3 x6 (h.lift (ix1 R) k)) = Spec.masked (kp x0 x1 cs R) (sc16 x0 x1 x2 x3 R) :=
    funext fun k => by
      rw [show h.lift (ix1 R) k = ix2 R k from at2 _ _ _ (Fin.ext rfl) (Fin.ext rfl)]
      exact masked_read x0 x1 x2 x3 x6 cs hcs h1 h2 R k
  rw [e] at hm
  rw [val_main_v44_apply, val_main_v43_apply]
  show max (Ideal.ofBits .f32 0xFF800000#32) (val_main_v42 (F := Ideal) x0 x1 x2 x3 x6 (ix1 R)) = _
  rw [ofBits_negInf, max_eq_right bot_le]
  exact hm

/-- The softmax's exponentials. -/
theorem exp_read (R : Fin 1024) (k : Fin 16) :
    val_main_v48 (F := Ideal) x0 x1 x2 x3 x6 (ix2 R k) = Spec.pexp (Spec.masked (kp x0 x1 cs R) (sc16 x0 x1 x2 x3 R)) k := by
  rw [val_main_v48_apply, val_main_v47_apply, val_main_v46_apply, val_main_v45_apply,
    show idx_main_v45 (idx_main_v46 (ix2 R k)) = ix1 R from funext fun d => match d with | ⟨0, _⟩ => rfl,
    max_read x0 x1 x2 x3 x6 cs hcs h1 h2, masked_read x0 x1 x2 x3 x6 cs hcs h1 h2]
  unfold Spec.pexp
  generalize Spec.masked (kp x0 x1 cs R) (sc16 x0 x1 x2 x3 R) = w
  rfl

/-- The attention weights at the sixteen places. -/
theorem attn_read (R : Fin 1024) (k : Fin 16) :
    val_main_v53 (F := Ideal) x0 x1 x2 x3 x6 (ix2 R k) = Spec.attn (kp x0 x1 cs R) (sc16 x0 x1 x2 x3 R) k := by
  have e : ∀ q, idx_main_v49 (idx_main_v50 (idx_main_v51 (ix2 R k))) q = ix2 R q := fun q => at2 _ _ _ rfl rfl
  rw [val_main_v53_apply, val_main_v52_apply, val_main_v51_apply, val_main_v50_apply, val_main_v49_apply, val_main_call4_v1_apply,
    mask_read x0 x1 x6 cs hcs h1 h2, select_bool]
  simp only [e, exp_read x0 x1 x2 x3 x6 cs hcs h1 h2]
  show (if kp x0 x1 cs R k then Ideal.div _ (Ideal.ofBits .f32 0#32 + ∑ q, Spec.pexp (Spec.masked (kp x0 x1 cs R) (sc16 x0 x1 x2 x3 R)) q)
    else Ideal.ofBits .f32 0#32) = _
  rw [Ideal.ofBits_zero_f32, zero_add]
  rfl

/-! ## The results -/

/-- The attended values over the sixteen places are those over all the past rows. -/
theorem attended_read (R : Fin 1024) (a : Fin 128) :
    val_main_v54 (F := Ideal) x0 x1 x2 x3 x4 x6 (ix2 R a)
      = ∑ j, Spec.attn (Spec.keep (S x0 x1 R) cs) (sc x0 x1 x2 x3 R) j * Spec.proj (T x1 j) (rows x4) a := by
  rw [val_main_v54_apply]
  refine Eq.trans ?_ (Spec.attended_slots (at16 x0 x1 R) (Spec.slot_inj _ _) _ (sc x0 x1 x2 x3 R) (fun j => Spec.proj (T x1 j) (rows x4) a)
    (Spec.keep_slots _ _ cs) (by norm_num) (by norm_num)).symm
  refine Finset.sum_congr rfl fun k _ => ?_
  rw [show lidx_main_v54 (ix2 R a) k = ix2 R k from at2 _ _ _ rfl rfl, show ridx_main_v54 (ix2 R a) k = ix3 R k a from at3 _ _ _ _ rfl rfl rfl,
    attn_read x0 x1 x2 x3 x6 cs hcs h1 h2, taken_value]

/-- The output rows. -/
theorem out_read (R : Fin 1024) (e : Fin 256) :
    val_main_v55 (F := Ideal) x0 x1 x2 x3 x4 x5 x6 (ix2 R e)
      = Spec.outs (Q x0) (T x1) (rows x2) (rows x3) (rows x4) (rows x5) cs R e := by
  rw [val_main_v55_apply]
  unfold Spec.outs Spec.attend
  rw [Spec.proj]
  refine Finset.sum_congr rfl fun a _ => ?_
  rw [show lidx_main_v55 (ix2 R e) a = ix2 R a from at2 _ _ _ rfl rfl, show ridx_main_v55 (ix2 R e) a = ix2 a e from at2 _ _ _ rfl rfl,
    attended_read x0 x1 x2 x3 x4 x6 cs hcs h1 h2]

/-- The reference's output. -/
theorem result_out : val_main_v56 (F := Ideal) x0 x1 x2 x3 x4 x5 x6 = shapeCast S32x32x256 (fun i : S1024x256.Idx =>
    Spec.outs (Q x0) (T x1) (rows x2) (rows x3) (rows x4) (rows x5) cs (i 0) (i 1)) shapeCasts_S1024x256_S32x32x256 := by
  refine congrArg (fun w : S1024x256.Idx → EReal => shapeCast S32x32x256 w shapeCasts_S1024x256_S32x32x256) (funext fun i => ?_)
  refine Eq.trans ?_ (out_read x0 x1 x2 x3 x4 x5 x6 cs hcs h1 h2 (i 0) (i 1))
  exact congrArg (val_main_v55 (F := Ideal) x0 x1 x2 x3 x4 x5 x6) (at2 _ _ _ rfl rfl)

/-- The mask as words of one or zero. -/
theorem bit_read (R : Fin 1024) (k : Fin 16) :
    val_main_v57 (F := Ideal) x0 x1 x6 (ix2 R k) = BitVec.ofNat 32 (if kp x0 x1 cs R k then 1 else 0) := by
  rw [val_main_v57_apply, mask_read x0 x1 x6 cs hcs h1 h2, wide_bool]

/-- The reference's number of connections. -/
theorem result_count : val_main_v58 (F := Ideal) x0 x1 x6 = fun _ => BitVec.ofNat 32 (Spec.total (Q x0) (T x1) cs) := by
  funext j
  refine (Spec.reduce_words (t := S_) (val_main_v57 (F := Ideal) x0 x1 x6) (fun i : S1024x16.Idx => if kp x0 x1 cs (i 0) (i 1) then 1 else 0)
    (fun i => (congrArg _ (at2 i (i 0) (i 1) rfl rfl)).trans (bit_read x0 x1 x6 cs hcs h1 h2 (i 0) (i 1))) _ _ _ rfl j).trans ?_
  rw [ValueIdx.sum_idx2]
  unfold Spec.total
  refine congrArg _ (Finset.sum_congr rfl fun R _ => ?_)
  rw [Spec.count_slots (at16 x0 x1 R) (Spec.slot_inj _ _) _ (Spec.keep_slots _ _ cs)]
  unfold Spec.count
  rw [Finset.card_filter]

end Cert.ReferenceIdeal.Rows
-- ==== Proof.Algebraic.lean ====
/- The value claim: from equal arguments, with the step in range, the idealized kernel and the idealized reference end with
   equal results. -/
module

public import proofs.«01_k».proof.Proof.KernelIdeal.Results
public import proofs.«01_k».proof.Proof.ReferenceIdeal.Value
public import proofs.«01_k».proof.Proof.Gen.Pre_step_in_range
public import proofs.«01_k».proof.Proof.Frames
public import proofs.«01_k».proof.Defs

@[expose] public section

set_option maxRecDepth 16384

noncomputable section

namespace Cert.Proof

open Idealize.ShloMosaic Idealize.SL.Sem Idealize.ShloMosaic.TcCoe

/-- The idealized kernel's frame, with the step in range. -/
theorem frame_pi_pre : Cert.quiescent_KernelIdeal_pre_step_in_range := fun m ρ _ => Cert.KernelIdeal.Gen.frame m ρ

/-- The idealized reference's frame, with the step in range. -/
theorem frame_ri_pre : Cert.quiescent_ReferenceIdeal_pre_step_in_range := fun m ρ _ => frame_ri m ρ trivial

/-- A step that meets the precondition is at least −2²¹ and less than 2²¹. -/
theorem range_of_pre (cs : BitVec 32) (h : IntOp.andi (IntOp.cmpi .sge cs 4292870144#32) (IntOp.cmpi .slt cs 2097152#32) = 1#1) :
    -2097152 ≤ cs.toInt ∧ cs.toInt < 2097152 := by
  have e : ∀ a b : Bool, IntOp.andi (BitVec.ofBool a) (BitVec.ofBool b) = 1#1 → a = true ∧ b = true := by decide
  obtain ⟨a, b⟩ := e ((4292870144#32).sle cs) (cs.slt 2097152#32) h
  rw [BitVec.sle_iff_toInt_le] at a
  rw [BitVec.slt_iff_toInt_lt] at b
  exact ⟨a, b⟩

/-- The reference's results from any memory whose step is in range, over that memory's arguments. -/
theorem reference_results (m' : (ℓ : Loc Cert.ReferenceIdeal.nD Cert.ReferenceIdeal.τ Cert.ReferenceIdeal.sig) → Buf (Elt Ideal) ℓ)
    (g' : Dev Cert.ReferenceIdeal.nD → PrngReg)
    (v0 : (c : Dev Cert.ReferenceIdeal.nD) → Buf (Elt Ideal) ((c.tc : Thread Cert.ReferenceIdeal.nD Cert.ReferenceIdeal.τ).loc Cert.ReferenceIdeal.main_v56))
    (v1 : (c : Dev Cert.ReferenceIdeal.nD) → Buf (Elt Ideal) ((c.tc : Thread Cert.ReferenceIdeal.nD Cert.ReferenceIdeal.τ).loc Cert.ReferenceIdeal.main_v58))
    (h0 : ∀ c : Dev Cert.ReferenceIdeal.nD, Cert.ReferenceIdeal.Read.val_main_v56 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = v0 c)
    (h1 : ∀ c : Dev Cert.ReferenceIdeal.nD, Cert.ReferenceIdeal.Read.val_main_v58 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg6)) = v1 c) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v56) = v0 c
        ∧ r.2.mem ((c.tc : Thread Cert.ReferenceIdeal.nD Cert.ReferenceIdeal.τ).loc Cert.ReferenceIdeal.main_v58) = v1 c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun r h c =>
      ⟨(h c).1.trans ((Cert.ReferenceIdeal.Read.val_main_v56_eq (StableHlo.launchContents m' c)).trans (h0 c)),
        (h c).2.1.trans ((Cert.ReferenceIdeal.Read.val_main_v58_eq (StableHlo.launchContents m' c)).trans (h1 c)), (h c).2.2⟩)
    (Cert.ReferenceIdeal.Value.run (F := Ideal) m' g')

/-- From equal arguments, with the step in range, the kernel and the reference end with equal outputs and equal numbers of
    connections over the extended reals. -/
theorem algebraic : Cert.algebraic_KernelIdeal_ReferenceIdeal_pre_step_in_range := by
  intro m g m' g' hpre hm
  refine ⟨fun c => Cert.KernelIdeal.Gen.W9 m g c (Proc.devRef .tc Cert.KernelIdeal.main_v9),
    fun c => Cert.KernelIdeal.Gen.W9 m g c (Proc.devRef .tc Cert.KernelIdeal.main_v10), ?_, ?_⟩
  · exact (θ_run Cert.KernelIdeal.defs _ _).mono (fun r h c =>
      ⟨h.1 c _ (Cert.KernelIdeal.Gen.mem_uc Cert.KernelIdeal.main_v9 (by decide)),
       h.1 c _ (Cert.KernelIdeal.Gen.mem_uc Cert.KernelIdeal.main_v10 (by decide)),
       (h.1 c _ (Cert.KernelIdeal.Gen.mem_uc Cert.KernelIdeal.main_arg0 (by decide))).trans (Cert.KernelIdeal.Gen.W9_args m g c Cert.KernelIdeal.main_arg0 (by decide)),
       (h.1 c _ (Cert.KernelIdeal.Gen.mem_uc Cert.KernelIdeal.main_arg1 (by decide))).trans (Cert.KernelIdeal.Gen.W9_args m g c Cert.KernelIdeal.main_arg1 (by decide)),
       (h.1 c _ (Cert.KernelIdeal.Gen.mem_uc Cert.KernelIdeal.main_arg2 (by decide))).trans (Cert.KernelIdeal.Gen.W9_args m g c Cert.KernelIdeal.main_arg2 (by decide)),
       (h.1 c _ (Cert.KernelIdeal.Gen.mem_uc Cert.KernelIdeal.main_arg3 (by decide))).trans (Cert.KernelIdeal.Gen.W9_args m g c Cert.KernelIdeal.main_arg3 (by decide)),
       (h.1 c _ (Cert.KernelIdeal.Gen.mem_uc Cert.KernelIdeal.main_arg4 (by decide))).trans (Cert.KernelIdeal.Gen.W9_args m g c Cert.KernelIdeal.main_arg4 (by decide)),
       (h.1 c _ (Cert.KernelIdeal.Gen.mem_uc Cert.KernelIdeal.main_arg5 (by decide))).trans (Cert.KernelIdeal.Gen.W9_args m g c Cert.KernelIdeal.main_arg5 (by decide)),
       (h.1 c _ (Cert.KernelIdeal.Gen.mem_uc Cert.KernelIdeal.main_arg6 (by decide))).trans (Cert.KernelIdeal.Gen.W9_args m g c Cert.KernelIdeal.main_arg6 (by decide))⟩)
      (Cert.KernelIdeal.Gen.run_all m g)
  · have hr : ∀ c : Dev Cert.KernelIdeal.nD, -2097152 ≤ (Cert.KernelIdeal.Gen.csOf m c).toInt ∧ (Cert.KernelIdeal.Gen.csOf m c).toInt < 2097152 :=
      fun c => range_of_pre _ (congrFun (hpre c) HostLoop.idx0)
    have hc : ∀ c : Dev Cert.KernelIdeal.nD, ∀ i : Cert.KernelIdeal.S_.Idx,
        (m ((c.tc : Thread Cert.KernelIdeal.nD Cert.KernelIdeal.τ).loc Cert.KernelIdeal.main_arg6) : Vec Ideal Cert.KernelIdeal.S_ .i32) i
          = Cert.KernelIdeal.Gen.csOf m c := fun c i => congrArg _ (funext fun a => a.elim0)
    refine reference_results m' g' _ _ (fun c => ?_) (fun c => ?_)
    · obtain ⟨e0, e1, e2, e3, e4, e5, e6⟩ := hm c
      rw [e0, e1, e2, e3, e4, e5, e6, Cert.KernelIdeal.Gen.result_out]
      exact Cert.ReferenceIdeal.Rows.result_out _ _ _ _ _ _ _ _ (hc c) (hr c).1 (hr c).2
    · obtain ⟨e0, e1, e2, e3, e4, e5, e6⟩ := hm c
      rw [e0, e1, e6, Cert.KernelIdeal.Gen.result_count]
      exact Cert.ReferenceIdeal.Rows.result_count _ _ _ _ (hc c) (hr c).1 (hr c).2

end Cert.Proof

end
-- ==== Proof.lean ====
/- The certificate's claims, assembled: every part is proved in the modules imported here. -/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_step_in_range
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

/-- Every claim of the certificate holds. -/
theorem claim : Cert.Claim :=
  ⟨Cert.Kernel.Gen.facts, Cert.KernelIdeal.Gen.facts, Cert.ReferenceIdeal.Gen.facts,
    Cert.Pre_step_in_range.Gen.facts, frame_p, frame_pi, frame_pi_pre, frame_ri, frame_ri_pre, preserves, algebraic⟩

end Cert.Proof

end
